-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x64x64 : Shape := ⟨4, ![4, 256, 64, 64]⟩
abbrev S4x150x64x64 : Shape := ⟨4, ![4, 150, 64, 64]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S4x150x64x64 : S_.BroadcastsInDim S4x150x64x64 (![] : Fin 0 → Fin S4x150x64x64.rank)
  reducesTo_S4x150x64x64_S_d0_1_2_3 : S4x150x64x64.ReducesTo [0, 1, 2, 3] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) : IVec S_ 1 :=
  let main_v80 : IVec S_ 1 := andi main_v3 main_v7
  let main_v81 : IVec S_ 1 := andi main_v80 main_v11
  let main_v82 : IVec S_ 1 := andi main_v81 main_v15
  let main_v83 : IVec S_ 1 := andi main_v82 main_v19
  let main_v84 : IVec S_ 1 := andi main_v83 main_v23
  let main_v85 : IVec S_ 1 := andi main_v84 main_v27
  let main_v86 : IVec S_ 1 := andi main_v85 main_v31
  let main_v87 : IVec S_ 1 := andi main_v86 main_v35
  let main_v88 : IVec S_ 1 := andi main_v87 main_v39
  let main_v89 : IVec S_ 1 := andi main_v88 main_v43
  let main_v90 : IVec S_ 1 := andi main_v89 main_v47
  let main_v91 : IVec S_ 1 := andi main_v90 main_v51
  let main_v92 : IVec S_ 1 := andi main_v91 main_v55
  let main_v93 : IVec S_ 1 := andi main_v92 main_v59
  let main_v94 : IVec S_ 1 := andi main_v93 main_v63
  let main_v95 : IVec S_ 1 := andi main_v94 main_v67
  let main_v96 : IVec S_ 1 := andi main_v95 main_v71
  let main_v97 : IVec S_ 1 := andi main_v96 main_v75
  let main_v98 : IVec S_ 1 := andi main_v97 main_v79
  main_v98

def fn_part4 {F : FTy → Type} [FloatOps F] (main_arg17 : FVec F S64 .f32) (main_arg18 : FVec F S64x256 .f32) (main_arg19 : FVec F S256 .f32) (main_arg20 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : FVec F S64 .f32 := Host.absf main_arg17
  let main_cst_30 : FVec F S_ .f32 := constant S_ .f32 0x7F800000#32
  let main_v65 : FVec F S64 .f32 := broadcastInDim S64 ![] bcast_S_S64 main_cst_30
  let main_v66 : IVec S64 1 := cmpf .olt main_v64 main_v65
  let main_c_31 : IVec S_ 1 := constantI S_ 1 1#1
  let main_v67 : IVec S_ 1 := (fun x v => Host.reduce IntOp.andi x v reducesTo_S64_S_d0 h_S_) main_v66 main_c_31
  let main_v68 : FVec F S64x256 .f32 := Host.absf main_arg18
  let main_cst_32 : FVec F S_ .f32 := constant S_ .f32 0x7F800000#32
  let main_v69 : FVec F S64x256 .f32 := broadcastInDim S64x256 ![] bcast_S_S64x256 main_cst_32
  let main_v70 : IVec S64x256 1 := cmpf .olt main_v68 main_v69
  let main_c_33 : IVec S_ 1 := constantI S_ 1 1#1
  let main_v71 : IVec S_ 1 := (fun x v => Host.reduce IntOp.andi x v reducesTo_S64x256_S_d0_1 h_S_) main_v70 main_c_33
  let main_v72 : FVec F S256 .f32 := Host.absf main_arg19
  let main_cst_34 : FVec F S_ .f32 := constant S_ .f32 0x7F800000#32
  let main_v73 : FVec F S256 .f32 := broadcastInDim S256 ![] bcast_S_S256 main_cst_34
  let main_v74 : IVec S256 1 := cmpf .olt main_v72 main_v73
  let main_c_35 : IVec S_ 1 := constantI S_ 1 1#1
  let main_v75 : IVec S_ 1 := (fun x v => Host.reduce IntOp.andi x v reducesTo_S256_S_d0 h_S_) main_v74 main_c_35
  let main_v76 : FVec F S256 .f32 := Host.absf main_arg20
  let main_cst_36 : FVec F S_ .f32 := constant S_ .f32 0x7F800000#32
  let main_v77 : FVec F S256 .f32 := broadcastInDim S256 ![] bcast_S_S256 main_cst_36
  let main_v78 : IVec S256 1 := cmpf .olt main_v76 main_v77
  let main_c_37 : IVec S_ 1 := constantI S_ 1 1#1
  let main_v79 : IVec S_ 1 := (fun x v => Host.reduce IntOp.andi x v reducesTo_S256_S_d0 h_S_) main_v78 main_c_37
  fn_part5 (F := F) main_v3 main_v7 main_v11 main_v15 main_v19 main_v23 main_v27 main_v31 main_v35 main_v39 main_v43 main_v47 main_v51 main_v55 main_v59 main_v63 main_v67 main_v71 main_v75 main_v79

def fn_part3 {F : FTy → Type} [FloatOps F] (main_arg13 : FVec F S64 .f32) (main_arg14 : FVec F S64 .f32) (main_arg15 : FVec F S256x64 .f32) (main_arg16 : FVec F S64 .f32) (main_arg17 : FVec F S64 .f32) (main_arg18 : FVec F S64x256 .f32) (main_arg19 : FVec F S256 .f32) (main_arg20 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S64 .f32 := Host.absf main_arg13
  let main_cst_22 : FVec F S_ .f32 := constant S_ .f32 0x7F800000#32
  let main_v49 : FVec F S64 .f32 := broadcastInDim S64 ![] bcast_S_S64 main_cst_22
  let main_v50 : IVec S64 1 := cmpf .olt main_v48 main_v49
  let main_c_23 : IVec S_ 1 := constantI S_ 1 1#1
  let main_v51 : IVec S_ 1 := (fun x v => Host.reduce IntOp.andi x v reducesTo_S64_S_d0 h_S_) main_v50 main_c_23
  let main_v52 : FVec F S64 .f32 := Host.absf main_arg14
  let main_cst_24 : FVec F S_ .f32 := constant S_ .f32 0x7F800000#32
  let main_v53 : FVec F S64 .f32 := broadcastInDim S64 ![] bcast_S_S64 main_cst_24
  let main_v54 : IVec S64 1 := cmpf .olt main_v52 main_v53
  let main_c_25 : IVec S_ 1 := constantI S_ 1 1#1
  let main_v55 : IVec S_ 1 := (fun x v => Host.reduce IntOp.andi x v reducesTo_S64_S_d0 h_S_) main_v54 main_c_25
  let main_v56 : FVec F S256x64 .f32 := Host.absf main_arg15
  let main_cst_26 : FVec F S_ .f32 := constant S_ .f32 0x7F800000#32
  let main_v57 : FVec F S256x64 .f32 := broadcastInDim S256x64 ![] bcast_S_S256x64 main_cst_26
  let main_v58 : IVec S256x64 1 := cmpf .olt main_v56 main_v57
  let main_c_27 : IVec S_ 1 := constantI S_ 1 1#1
  let main_v59 : IVec S_ 1 := (fun x v => Host.reduce IntOp.andi x v reducesTo_S256x64_S_d0_1 h_S_) main_v58 main_c_27
  let main_v60 : FVec F S64 .f32 := Host.absf main_arg16
  let main_cst_28 : FVec F S_ .f32 := constant S_ .f32 0x7F800000#32
  let main_v61 : FVec F S64 .f32 := broadcastInDim S64 ![] bcast_S_S64 main_cst_28
  let main_v62 : IVec S64 1 := cmpf .olt main_v60 main_v61
  let main_c_29 : IVec S_ 1 := constantI S_ 1 1#1
  let main_v63 : IVec S_ 1 := (fun x v => Host.reduce IntOp.andi x v reducesTo_S64_S_d0 h_S_) main_v62 main_c_29
  fn_part4 (F := F) main_arg17 main_arg18 main_arg19 main_arg20 main_v3 main_v7 main_v11 main_v15 main_v19 main_v23 main_v27 main_v31 main_v35 main_v39 main_v43 main_v47 main_v51 main_v55 main_v59 main_v63

def fn_part2 {F : FTy → Type} [FloatOps F] (main_arg9 : FVec F S256x64 .f32) (main_arg10 : FVec F S64 .f32) (main_arg11 : FVec F S64 .f32) (main_arg12 : FVec F S64x64 .f32) (main_arg13 : FVec F S64 .f32) (main_arg14 : FVec F S64 .f32) (main_arg15 : FVec F S256x64 .f32) (main_arg16 : FVec F S64 .f32) (main_arg17 : FVec F S64 .f32) (main_arg18 : FVec F S64x256 .f32) (main_arg19 : FVec F S256 .f32) (main_arg20 : FVec F S256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S256x64 .f32 := Host.absf main_arg9
  let main_cst_14 : FVec F S_ .f32 := constant S_ .f32 0x7F800000#32
  let main_v33 : FVec F S256x64 .f32 := broadcastInDim S256x64 ![] bcast_S_S256x64 main_cst_14
  let main_v34 : IVec S256x64 1 := cmpf .olt main_v32 main_v33
  let main_c_15 : IVec S_ 1 := constantI S_ 1 1#1
  let main_v35 : IVec S_ 1 := (fun x v => Host.reduce IntOp.andi x v reducesTo_S256x64_S_d0_1 h_S_) main_v34 main_c_15
  let main_v36 : FVec F S64 .f32 := Host.absf main_arg10
  let main_cst_16 : FVec F S_ .f32 := constant S_ .f32 0x7F800000#32
  let main_v37 : FVec F S64 .f32 := broadcastInDim S64 ![] bcast_S_S64 main_cst_16
  let main_v38 : IVec S64 1 := cmpf .olt main_v36 main_v37
  let main_c_17 : IVec S_ 1 := constantI S_ 1 1#1
  let main_v39 : IVec S_ 1 := (fun x v => Host.reduce IntOp.andi x v reducesTo_S64_S_d0 h_S_) main_v38 main_c_17
  let main_v40 : FVec F S64 .f32 := Host.absf main_arg11
  let main_cst_18 : FVec F S_ .f32 := constant S_ .f32 0x7F800000#32
  let main_v41 : FVec F S64 .f32 := broadcastInDim S64 ![] bcast_S_S64 main_cst_18
  let main_v42 : IVec S64 1 := cmpf .olt main_v40 main_v41
  let main_c_19 : IVec S_ 1 := constantI S_ 1 1#1
  let main_v43 : IVec S_ 1 := (fun x v => Host.reduce IntOp.andi x v reducesTo_S64_S_d0 h_S_) main_v42 main_c_19
  let main_v44 : FVec F S64x64 .f32 := Host.absf main_arg12
  let main_cst_20 : FVec F S_ .f32 := constant S_ .f32 0x7F800000#32
  let main_v45 : FVec F S64x64 .f32 := broadcastInDim S64x64 ![] bcast_S_S64x64 main_cst_20
  let main_v46 : IVec S64x64 1 := cmpf .olt main_v44 main_v45
  let main_c_21 : IVec S_ 1 := constantI S_ 1 1#1
  let main_v47 : IVec S_ 1 := (fun x v => Host.reduce IntOp.andi x v reducesTo_S64x64_S_d0_1 h_S_) main_v46 main_c_21
  fn_part3 (F := F) main_arg13 main_arg14 main_arg15 main_arg16 main_arg17 main_arg18 main_arg19 main_arg20 main_v3 main_v7 main_v11 main_v15 main_v19 main_v23 main_v27 main_v31 main_v35 main_v39 main_v43 main_v47

def fn_part1 {F : FTy → Type} [FloatOps F] (main_arg5 : FVec F S64 .f32) (main_arg6 : FVec F S64x64 .f32) (main_arg7 : FVec F S64 .f32) (main_arg8 : FVec F S64 .f32) (main_arg9 : FVec F S256x64 .f32) (main_arg10 : FVec F S64 .f32) (main_arg11 : FVec F S64 .f32) (main_arg12 : FVec F S64x64 .f32) (main_arg13 : FVec F S64 .f32) (main_arg14 : FVec F S64 .f32) (main_arg15 : FVec F S256x64 .f32) (main_arg16 : FVec F S64 .f32) (main_arg17 : FVec F S64 .f32) (main_arg18 : FVec F S64x256 .f32) (main_arg19 : FVec F S256 .f32) (main_arg20 : FVec F S256 .f32) (main_v3 : IVec S_ 1) (main_v7 : IVec S_ 1) (main_v11 : IVec S_ 1) (main_v15 : IVec S_ 1) : IVec S_ 1 :=
  let main_v16 : FVec F S64 .f32 := Host.absf main_arg5
  let main_cst_6 : FVec F S_ .f32 := constant S_ .f32 0x7F800000#32
  let main_v17 : FVec F S64 .f32 := broadcastInDim S64 ![] bcast_S_S64 main_cst_6
  let main_v18 : IVec S64 1 := cmpf .olt main_v16 main_v17
  let main_c_7 : IVec S_ 1 := constantI S_ 1 1#1
  let main_v19 : IVec S_ 1 := (fun x v => Host.reduce IntOp.andi x v reducesTo_S64_S_d0 h_S_) main_v18 main_c_7
  let main_v20 : FVec F S64x64 .f32 := Host.absf main_arg6
  let main_cst_8 : FVec F S_ .f32 := constant S_ .f32 0x7F800000#32
  let main_v21 : FVec F S64x64 .f32 := broadcastInDim S64x64 ![] bcast_S_S64x64 main_cst_8
  let main_v22 : IVec S64x64 1 := cmpf .olt main_v20 main_v21
  let main_c_9 : IVec S_ 1 := constantI S_ 1 1#1
  let main_v23 : IVec S_ 1 := (fun x v => Host.reduce IntOp.andi x v reducesTo_S64x64_S_d0_1 h_S_) main_v22 main_c_9
  let main_v24 : FVec F S64 .f32 := Host.absf main_arg7
  let main_cst_10 : FVec F S_ .f32 := constant S_ .f32 0x7F800000#32
  let main_v25 : FVec F S64 .f32 := broadcastInDim S64 ![] bcast_S_S64 main_cst_10
  let main_v26 : IVec S64 1 := cmpf .olt main_v24 main_v25
  let main_c_11 : IVec S_ 1 := constantI S_ 1 1#1
  let main_v27 : IVec S_ 1 := (fun x v => Host.reduce IntOp.andi x v reducesTo_S64_S_d0 h_S_) main_v26 main_c_11
  let main_v28 : FVec F S64 .f32 := Host.absf main_arg8
  let main_cst_12 : FVec F S_ .f32 := constant S_ .f32 0x7F800000#32
  let main_v29 : FVec F S64 .f32 := broadcastInDim S64 ![] bcast_S_S64 main_cst_12
  let main_v30 : IVec S64 1 := cmpf .olt main_v28 main_v29
  let main_c_13 : IVec S_ 1 := constantI S_ 1 1#1
  let main_v31 : IVec S_ 1 := (fun x v => Host.reduce IntOp.andi x v reducesTo_S64_S_d0 h_S_) main_v30 main_c_13
  fn_part2 (F := F) main_arg9 main_arg10 main_arg11 main_arg12 main_arg13 main_arg14 main_arg15 main_arg16 main_arg17 main_arg18 main_arg19 main_arg20 main_v3 main_v7 main_v11 main_v15 main_v19 main_v23 main_v27 main_v31

def fn {F : FTy → Type} [FloatOps F] (main_arg0 : FVec F S4x256x64x64 .f32) (main_arg1 : FVec F S4x150x64x64 .f32) (main_arg2 : FVec F S4x256x64x64 .f32) (main_arg3 : FVec F S256x64 .f32) (main_arg4 : FVec F S64 .f32) (main_arg5 : FVec F S64 .f32) (main_arg6 : FVec F S64x64 .f32) (main_arg7 : FVec F S64 .f32) (main_arg8 : FVec F S64 .f32) (main_arg9 : FVec F S256x64 .f32) (main_arg10 : FVec F S64 .f32) (main_arg11 : FVec F S64 .f32) (main_arg12 : FVec F S64x64 .f32) (main_arg13 : FVec F S64 .f32) (main_arg14 : FVec F S64 .f32) (main_arg15 : FVec F S256x64 .f32) (main_arg16 : FVec F S64 .f32) (main_arg17 : FVec F S64 .f32) (main_arg18 : FVec F S64x256 .f32) (main_arg19 : FVec F S256 .f32) (main_arg20 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x150x64x64 .f32 := Host.absf main_arg1
  let main_cst_0 : FVec F S_ .f32 := constant S_ .f32 0x7F800000#32
  let main_v5 : FVec F S4x150x64x64 .f32 := broadcastInDim S4x150x64x64 ![] bcast_S_S4x150x64x64 main_cst_0
  let main_v6 : IVec S4x150x64x64 1 := cmpf .olt main_v4 main_v5
  let main_c_1 : IVec S_ 1 := constantI S_ 1 1#1
  let main_v7 : IVec S_ 1 := (fun x v => Host.reduce IntOp.andi x v reducesTo_S4x150x64x64_S_d0_1_2_3 h_S_) main_v6 main_c_1
  let main_v8 : FVec F S256x64 .f32 := Host.absf main_arg3
  let main_cst_2 : FVec F S_ .f32 := constant S_ .f32 0x7F800000#32
  let main_v9 : FVec F S256x64 .f32 := broadcastInDim S256x64 ![] bcast_S_S256x64 main_cst_2
  let main_v10 : IVec S256x64 1 := cmpf .olt main_v8 main_v9
  let main_c_3 : IVec S_ 1 := constantI S_ 1 1#1
  let main_v11 : IVec S_ 1 := (fun x v => Host.reduce IntOp.andi x v reducesTo_S256x64_S_d0_1 h_S_) main_v10 main_c_3
  let main_v12 : FVec F S64 .f32 := Host.absf main_arg4
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg5 main_arg6 main_arg7 main_arg8 main_arg9 main_arg10 main_arg11 main_arg12 main_arg13 main_arg14 main_arg15 main_arg16 main_arg17 main_arg18 main_arg19 main_arg20 main_v3 main_v7 main_v11 main_v15
-- ==== Kernel.lean ====
abbrev S4x256x64x64 : Shape := ⟨4, ![4, 256, 64, 64]⟩
abbrev S4x150x64x64 : Shape := ⟨4, ![4, 150, 64, 64]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S4x256x4096 : Shape := ⟨3, ![4, 256, 4096]⟩
abbrev S4x150x4096 : Shape := ⟨3, ![4, 150, 4096]⟩
abbrev S4x64x4096 : Shape := ⟨3, ![4, 64, 4096]⟩
abbrev S1x256x4096 : Shape := ⟨3, ![1, 256, 4096]⟩
abbrev S1x150x4096 : Shape := ⟨3, ![1, 150, 4096]⟩
abbrev S1x64x4096 : Shape := ⟨3, ![1, 64, 4096]⟩
abbrev S150x4096 : Shape := ⟨2, ![150, 4096]⟩
abbrev S4096 : Shape := ⟨1, ![4096]⟩
abbrev S1x4096 : Shape := ⟨2, ![1, 4096]⟩
abbrev S152x4096 : Shape := ⟨2, ![152, 4096]⟩
abbrev S152 : Shape := ⟨1, ![152]⟩
abbrev S152x1 : Shape := ⟨2, ![152, 1]⟩
abbrev S256x4096 : Shape := ⟨2, ![256, 4096]⟩
abbrev S256x152 : Shape := ⟨2, ![256, 152]⟩
abbrev S64x4096 : Shape := ⟨2, ![64, 4096]⟩
abbrev S64x152 : Shape := ⟨2, ![64, 152]⟩
abbrev S64x1 : Shape := ⟨2, ![64, 1]⟩
abbrev S1x64x1024 : Shape := ⟨3, ![1, 64, 1024]⟩
abbrev S64x1024 : Shape := ⟨2, ![64, 1024]⟩
abbrev S1024x4096 : Shape := ⟨2, ![1024, 4096]⟩
abbrev S1024 : Shape := ⟨1, ![1024]⟩
abbrev S1024x1 : Shape := ⟨2, ![1024, 1]⟩
abbrev S256x1 : Shape := ⟨2, ![256, 1]⟩

abbrev nBuf : Space → Nat
  | .hbm => 44
  | .vmem => 47
  | .smem => 0
  | _ => 0

abbrev bufTy : (tb : Table) → Fin (tcTables nBuf tb) → BufTy
  | .hbm, ⟨0, _⟩ => ⟨S4x256x64x64, .f32⟩
  | .hbm, ⟨1, _⟩ => ⟨S4x150x64x64, .f32⟩
  | .hbm, ⟨2, _⟩ => ⟨S4x256x64x64, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S256x64, .f32⟩
  | .hbm, ⟨16, _⟩ => ⟨S64, .f32⟩
  | .hbm, ⟨17, _⟩ => ⟨S64, .f32⟩
  | .hbm, ⟨18, _⟩ => ⟨S64x256, .f32⟩
  | .hbm, ⟨19, _⟩ => ⟨S256, .f32⟩
  | .hbm, ⟨20, _⟩ => ⟨S256, .f32⟩
  | .hbm, ⟨21, _⟩ => ⟨S4x256x4096, .f32⟩
  | .hbm, ⟨22, _⟩ => ⟨S4x150x4096, .f32⟩
  | .hbm, ⟨23, _⟩ => ⟨S4x64x4096, .f32⟩
  | .hbm, ⟨24, _⟩ => ⟨S4x64x4096, .f32⟩
  | .hbm, ⟨25, _⟩ => ⟨S4x64x4096, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S64x1, .f32⟩
  | .hbm, ⟨35, _⟩ => ⟨S64x1, .f32⟩
  | .hbm, ⟨36, _⟩ => ⟨S4x64x4096, .bf16⟩
  | .hbm, ⟨37, _⟩ => ⟨S4x64x4096, .bf16⟩
  | .hbm, ⟨38, _⟩ => ⟨S4x64x4096, .bf16⟩
  | .hbm, ⟨39, _⟩ => ⟨S4x64x4096, .f32⟩
  | .hbm, ⟨40, _⟩ => ⟨S256x1, .f32⟩
  | .hbm, ⟨41, _⟩ => ⟨S256x1, .f32⟩
  | .hbm, ⟨42, _⟩ => ⟨S4x256x4096, .f32⟩
  | .hbm, ⟨43, _⟩ => ⟨S4x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x150x4096, .f32⟩
  | .local _ .vmem, ⟨3, _⟩ => ⟨S1x150x4096, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S4x64x4096, .f32⟩
  | .local _ .vmem, ⟨14, _⟩ => ⟨S4x64x4096, .f32⟩
  | .local _ .vmem, ⟨15, _⟩ => ⟨S4x64x4096, .f32⟩
  | .local _ .vmem, ⟨16, _⟩ => ⟨S64x64, .f32⟩
  | .local _ .vmem, ⟨17, _⟩ => ⟨S64x1, .f32⟩
  | .local _ .vmem, ⟨18, _⟩ => ⟨S64x1, .f32⟩
  | .local _ .vmem, ⟨19, _⟩ => ⟨S64x1, .f32⟩
  | .local _ .vmem, ⟨20, _⟩ => ⟨S64x1, .f32⟩
  | .local _ .vmem, ⟨21, _⟩ => ⟨S64x64, .f32⟩
  | .local _ .vmem, ⟨22, _⟩ => ⟨S64x1, .f32⟩
  | .local _ .vmem, ⟨23, _⟩ => ⟨S64x1, .f32⟩
  | .local _ .vmem, ⟨24, _⟩ => ⟨S64x1, .f32⟩
  | .local _ .vmem, ⟨25, _⟩ => ⟨S64x1, .f32⟩
  | .local _ .vmem, ⟨26, _⟩ => ⟨S64x1, .f32⟩
  | .local _ .vmem, ⟨27, _⟩ => ⟨S64x1, .f32⟩
  | .local _ .vmem, ⟨28, _⟩ => ⟨S4x64x4096, .bf16⟩
  | .local _ .vmem, ⟨29, _⟩ => ⟨S4x64x4096, .bf16⟩
  | .local _ .vmem, ⟨30, _⟩ => ⟨S4x64x4096, .bf16⟩
  | .local _ .vmem, ⟨31, _⟩ => ⟨S4x64x4096, .f32⟩
  | .local _ .vmem, ⟨32, _⟩ => ⟨S4x64x4096, .f32⟩
  | .local _ .vmem, ⟨33, _⟩ => ⟨S1x64x1024, .bf16⟩
  | .local _ .vmem, ⟨34, _⟩ => ⟨S1x64x1024, .bf16⟩
  | .local _ .vmem, ⟨35, _⟩ => ⟨S1x64x4096, .bf16⟩
  | .local _ .vmem, ⟨36, _⟩ => ⟨S1x64x4096, .bf16⟩
  | .local _ .vmem, ⟨37, _⟩ => ⟨S1x64x4096, .bf16⟩
  | .local _ .vmem, ⟨38, _⟩ => ⟨S1x64x4096, .bf16⟩
  | .local _ .vmem, ⟨39, _⟩ => ⟨S1x64x1024, .f32⟩
  | .local _ .vmem, ⟨40, _⟩ => ⟨S1x64x1024, .f32⟩
  | .local _ .vmem, ⟨41, _⟩ => ⟨S4x64x4096, .f32⟩
  | .local _ .vmem, ⟨42, _⟩ => ⟨S64x256, .f32⟩
  | .local _ .vmem, ⟨43, _⟩ => ⟨S256x1, .f32⟩
  | .local _ .vmem, ⟨44, _⟩ => ⟨S256x1, .f32⟩
  | .local _ .vmem, ⟨45, _⟩ => ⟨S4x256x4096, .f32⟩
  | .local _ .vmem, ⟨46, _⟩ => ⟨S4x256x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev main_v2_2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13_0 : Ref sig .tc := ⟨.hbm, 36, rfl⟩
abbrev main_v13_1 : Ref sig .tc := ⟨.hbm, 37, rfl⟩
abbrev main_v13_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg16_0 : Ref sig .tc := ⟨.vmem, 29, rfl⟩
abbrev cc1_stg17_0 : Ref sig .tc := ⟨.vmem, 30, rfl⟩
abbrev cc1_scratch0 : Ref sig .tc := ⟨.vmem, 31, rfl⟩
abbrev cc1_scratch1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc3_stg0_0 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem16_0 : DmaSem sig := 29
abbrev cc1_sem17_0 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc3_sem0_0 : DmaSem sig := 39
abbrev cc3_sem1_0 : DmaSem sig := 40
abbrev cc3_sem2_0 : DmaSem sig := 41
abbrev cc3_sem3_0 : DmaSem sig := 42
abbrev cc3_sem4_0 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x150x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S4x64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x64x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S64x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S64x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S64x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S4x64x4096 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S4x64x4096 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S4x64x4096 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x64x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x64x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := .none

abbrev stage3_0 : Fin 1 → Memref sig .tc .vmem S4x64x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S4x256x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x256x64x64 : Shape := ⟨4, ![4, 256, 64, 64]⟩
abbrev S4x150x64x64 : Shape := ⟨4, ![4, 150, 64, 64]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S4x256x4096 : Shape := ⟨3, ![4, 256, 4096]⟩
abbrev S4x4096x256 : Shape := ⟨3, ![4, 4096, 256]⟩
abbrev S4x150x4096 : Shape := ⟨3, ![4, 150, 4096]⟩
abbrev S4x4096x150 : Shape := ⟨3, ![4, 4096, 150]⟩
abbrev S4x4096x1 : Shape := ⟨3, ![4, 4096, 1]⟩
abbrev S4x4096 : Shape := ⟨2, ![4, 4096]⟩
abbrev S_ : Shape := ⟨0, ![]⟩
abbrev S150 : Shape := ⟨1, ![150]⟩
abbrev S1x1x150 : Shape := ⟨3, ![1, 1, 150]⟩
abbrev S4x150 : Shape := ⟨2, ![4, 150]⟩
abbrev S4 : Shape := ⟨1, ![4]⟩
abbrev S4x1 : Shape := ⟨2, ![4, 1]⟩
abbrev S16384 : Shape := ⟨1, ![16384]⟩
abbrev S600 : Shape := ⟨1, ![600]⟩
abbrev S16384x1 : Shape := ⟨2, ![16384, 1]⟩
abbrev S16384x256 : Shape := ⟨2, ![16384, 256]⟩
abbrev S600x256 : Shape := ⟨2, ![600, 256]⟩
abbrev S4x64x64x256 : Shape := ⟨4, ![4, 64, 64, 256]⟩
abbrev S64x4x64x64 : Shape := ⟨4, ![64, 4, 64, 64]⟩
abbrev S4x64x64x64 : Shape := ⟨4, ![4, 64, 64, 64]⟩
abbrev S1x64x1x1 : Shape := ⟨4, ![1, 64, 1, 1]⟩
abbrev S4x64x4096 : Shape := ⟨3, ![4, 64, 4096]⟩
abbrev S4x4096x64 : Shape := ⟨3, ![4, 4096, 64]⟩
abbrev S4x4096x4096 : Shape := ⟨3, ![4, 4096, 4096]⟩
abbrev S256x4x64x64 : Shape := ⟨4, ![256, 4, 64, 64]⟩
abbrev S1x256x1x1 : Shape := ⟨4, ![1, 256, 1, 1]⟩

abbrev nBuf : Space → Nat
  | .hbm => 418
  | .vmem => 0
  | .smem => 0
  | _ => 0

abbrev hbmTy0_0 (i : Nat) : BufTy := match i % 128 with
  | 0 => ⟨S4x256x64x64, .f32⟩
  | 1 => ⟨S4x150x64x64, .f32⟩
  | 2 => ⟨S4x256x64x64, .f32⟩
  | 3 => ⟨S256x64, .f32⟩
  | 4 => ⟨S64, .f32⟩
  | 5 => ⟨S64, .f32⟩
  | 6 => ⟨S64x64, .f32⟩
  | 7 => ⟨S64, .f32⟩
  | 8 => ⟨S64, .f32⟩
  | 9 => ⟨S256x64, .f32⟩
  | 10 => ⟨S64, .f32⟩
  | 11 => ⟨S64, .f32⟩
  | 12 => ⟨S64x64, .f32⟩
  | 13 => ⟨S64, .f32⟩
  | 14 => ⟨S64, .f32⟩
  | 15 => ⟨S256x64, .f32⟩
  | 16 => ⟨S64, .f32⟩
  | 17 => ⟨S64, .f32⟩
  | 18 => ⟨S64x256, .f32⟩
  | 19 => ⟨S256, .f32⟩
  | 20 => ⟨S256, .f32⟩
  | 21 => ⟨S4x256x4096, .f32⟩
  | 22 => ⟨S4x4096x256, .f32⟩
  | 23 => ⟨S4x150x4096, .f32⟩
  | 24 => ⟨S4x4096x150, .f32⟩
  | 25 => ⟨S4x4096x1, .f32⟩
  | 26 => ⟨S4x4096x1, .i32⟩
  | 27 => ⟨S4x4096, .i32⟩
  | 28 => ⟨S_, .f32⟩
  | 29 => ⟨S4x4096, .f32⟩
  | 30 => ⟨S4x4096x1, .i32⟩
  | 31 => ⟨S150, .i32⟩
  | 32 => ⟨S1x1x150, .i32⟩
  | 33 => ⟨S4x4096x150, .i32⟩
  | 34 => ⟨S4x4096x150, .i32⟩
  | 35 => ⟨S4x4096x150, .i1⟩
  | 36 => ⟨S4x4096x1, .f32⟩
  | 37 => ⟨S_, .f32⟩
  | 38 => ⟨S_, .f32⟩
  | 39 => ⟨S4x4096x150, .f32⟩
  | 40 => ⟨S4x4096x150, .f32⟩
  | 41 => ⟨S4x4096x150, .f32⟩
  | 42 => ⟨S_, .f32⟩
  | 43 => ⟨S4x150, .f32⟩
  | 44 => ⟨S4, .i32⟩
  | 45 => ⟨S4x1, .i32⟩
  | 46 => ⟨S_, .i32⟩
  | 47 => ⟨S4x1, .i32⟩
  | 48 => ⟨S4x1, .i32⟩
  | 49 => ⟨S4x4096, .i32⟩
  | 50 => ⟨S4x4096, .i32⟩
  | 51 => ⟨S16384, .i32⟩
  | 52 => ⟨S16384, .f32⟩
  | 53 => ⟨S600, .f32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S16384, .f32⟩
  | 63 => ⟨S16384, .f32⟩
  | 64 => ⟨S16384, .f32⟩
  | 65 => ⟨S_, .f32⟩
  | 66 => ⟨S600, .f32⟩
  | 67 => ⟨S16384x1, .i32⟩
  | 68 => ⟨S600, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S16384, .f32⟩
  | 78 => ⟨S16384, .f32⟩
  | 79 => ⟨S16384x256, .f32⟩
  | 80 => ⟨S16384x1, .f32⟩
  | 81 => ⟨S16384x256, .f32⟩
  | 82 => ⟨S16384x256, .f32⟩
  | 83 => ⟨S_, .f32⟩
  | 84 => ⟨S600x256, .f32⟩
  | 85 => ⟨S16384x1, .i32⟩
  | 86 => ⟨S600x256, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x256, .f32⟩
  | 96 => ⟨S4x64x64x256, .f32⟩
  | 97 => ⟨S4x256x64x64, .f32⟩
  | 98 => ⟨S64x4x64x64, .f32⟩
  | 99 => ⟨S4x64x64x64, .f32⟩
  | 100 => ⟨S_, .f32⟩
  | 101 => ⟨S64, .f32⟩
  | 102 => ⟨S1x64x1x1, .f32⟩
  | 103 => ⟨S_, .f32⟩
  | 104 => ⟨S1x64x1x1, .f32⟩
  | 105 => ⟨S1x64x1x1, .f32⟩
  | 106 => ⟨S_, .i32⟩
  | 107 => ⟨S_, .f32⟩
  | 108 => ⟨S64, .f32⟩
  | 109 => ⟨S1x64x1x1, .f32⟩
  | 110 => ⟨S_, .f32⟩
  | 111 => ⟨S1x64x1x1, .f32⟩
  | 112 => ⟨S1x64x1x1, .f32⟩
  | 113 => ⟨S4x64x64x64, .f32⟩
  | 114 => ⟨S4x64x64x64, .f32⟩
  | 115 => ⟨S4x64x64x64, .f32⟩
  | 116 => ⟨S_, .f32⟩
  | 117 => ⟨S_, .f32⟩
  | 118 => ⟨S_, .f32⟩
  | 119 => ⟨S_, .f32⟩
  | 120 => ⟨S64, .f32⟩
  | 121 => ⟨S1x64x1x1, .f32⟩
  | 122 => ⟨S1x64x1x1, .f32⟩
  | 123 => ⟨S1x64x1x1, .f32⟩
  | 124 => ⟨S_, .f32⟩
  | 125 => ⟨S_, .i1⟩
  | 126 => ⟨S_, .f32⟩
  | 127 => ⟨S_, .f32⟩
  | _ => ⟨S4x256x64x64, .f32⟩

abbrev hbmTy0_1 (i : Nat) : BufTy := match i % 128 with
  | 0 => ⟨S1x64x1x1, .f32⟩
  | 1 => ⟨S1x64x1x1, .f32⟩
  | 2 => ⟨S4x64x64x64, .f32⟩
  | 3 => ⟨S4x64x64x64, .f32⟩
  | 4 => ⟨S_, .f32⟩
  | 5 => ⟨S1x64x1x1, .f32⟩
  | 6 => ⟨S1x64x1x1, .f32⟩
  | 7 => ⟨S1x64x1x1, .f32⟩
  | 8 => ⟨S4x64x64x64, .f32⟩
  | 9 => ⟨S4x64x64x64, .f32⟩
  | 10 => ⟨S1x64x1x1, .f32⟩
  | 11 => ⟨S4x64x64x64, .f32⟩
  | 12 => ⟨S4x64x64x64, .f32⟩
  | 13 => ⟨S1x64x1x1, .f32⟩
  | 14 => ⟨S4x64x64x64, .f32⟩
  | 15 => ⟨S4x64x64x64, .f32⟩
  | 16 => ⟨S_, .f32⟩
  | 17 => ⟨S4x64x64x64, .f32⟩
  | 18 => ⟨S4x64x64x64, .f32⟩
  | 19 => ⟨S64x4x64x64, .f32⟩
  | 20 => ⟨S4x64x64x64, .f32⟩
  | 21 => ⟨S_, .f32⟩
  | 22 => ⟨S64, .f32⟩
  | 23 => ⟨S1x64x1x1, .f32⟩
  | 24 => ⟨S_, .f32⟩
  | 25 => ⟨S1x64x1x1, .f32⟩
  | 26 => ⟨S1x64x1x1, .f32⟩
  | 27 => ⟨S_, .i32⟩
  | 28 => ⟨S_, .f32⟩
  | 29 => ⟨S64, .f32⟩
  | 30 => ⟨S1x64x1x1, .f32⟩
  | 31 => ⟨S_, .f32⟩
  | 32 => ⟨S1x64x1x1, .f32⟩
  | 33 => ⟨S1x64x1x1, .f32⟩
  | 34 => ⟨S4x64x64x64, .f32⟩
  | 35 => ⟨S4x64x64x64, .f32⟩
  | 36 => ⟨S4x64x64x64, .f32⟩
  | 37 => ⟨S_, .f32⟩
  | 38 => ⟨S_, .f32⟩
  | 39 => ⟨S_, .f32⟩
  | 40 => ⟨S_, .f32⟩
  | 41 => ⟨S64, .f32⟩
  | 42 => ⟨S1x64x1x1, .f32⟩
  | 43 => ⟨S1x64x1x1, .f32⟩
  | 44 => ⟨S1x64x1x1, .f32⟩
  | 45 => ⟨S_, .f32⟩
  | 46 => ⟨S_, .i1⟩
  | 47 => ⟨S_, .f32⟩
  | 48 => ⟨S_, .f32⟩
  | 49 => ⟨S1x64x1x1, .f32⟩
  | 50 => ⟨S1x64x1x1, .f32⟩
  | 51 => ⟨S4x64x64x64, .f32⟩
  | 52 => ⟨S4x64x64x64, .f32⟩
  | 53 => ⟨S_, .f32⟩
  | 54 => ⟨S1x64x1x1, .f32⟩
  | 55 => ⟨S1x64x1x1, .f32⟩
  | 56 => ⟨S1x64x1x1, .f32⟩
  | 57 => ⟨S4x64x64x64, .f32⟩
  | 58 => ⟨S4x64x64x64, .f32⟩
  | 59 => ⟨S1x64x1x1, .f32⟩
  | 60 => ⟨S4x64x64x64, .f32⟩
  | 61 => ⟨S4x64x64x64, .f32⟩
  | 62 => ⟨S1x64x1x1, .f32⟩
  | 63 => ⟨S4x64x64x64, .f32⟩
  | 64 => ⟨S4x64x64x64, .f32⟩
  | 65 => ⟨S_, .f32⟩
  | 66 => ⟨S4x64x64x64, .f32⟩
  | 67 => ⟨S4x64x64x64, .f32⟩
  | 68 => ⟨S64x4x64x64, .f32⟩
  | 69 => ⟨S4x64x64x64, .f32⟩
  | 70 => ⟨S_, .f32⟩
  | 71 => ⟨S64, .f32⟩
  | 72 => ⟨S1x64x1x1, .f32⟩
  | 73 => ⟨S_, .f32⟩
  | 74 => ⟨S1x64x1x1, .f32⟩
  | 75 => ⟨S1x64x1x1, .f32⟩
  | 76 => ⟨S_, .i32⟩
  | 77 => ⟨S_, .f32⟩
  | 78 => ⟨S64, .f32⟩
  | 79 => ⟨S1x64x1x1, .f32⟩
  | 80 => ⟨S_, .f32⟩
  | 81 => ⟨S1x64x1x1, .f32⟩
  | 82 => ⟨S1x64x1x1, .f32⟩
  | 83 => ⟨S4x64x64x64, .f32⟩
  | 84 => ⟨S4x64x64x64, .f32⟩
  | 85 => ⟨S4x64x64x64, .f32⟩
  | 86 => ⟨S_, .f32⟩
  | 87 => ⟨S_, .f32⟩
  | 88 => ⟨S_, .f32⟩
  | 89 => ⟨S_, .f32⟩
  | 90 => ⟨S64, .f32⟩
  | 91 => ⟨S1x64x1x1, .f32⟩
  | 92 => ⟨S1x64x1x1, .f32⟩
  | 93 => ⟨S1x64x1x1, .f32⟩
  | 94 => ⟨S_, .f32⟩
  | 95 => ⟨S_, .i1⟩
  | 96 => ⟨S_, .f32⟩
  | 97 => ⟨S_, .f32⟩
  | 98 => ⟨S1x64x1x1, .f32⟩
  | 99 => ⟨S1x64x1x1, .f32⟩
  | 100 => ⟨S4x64x64x64, .f32⟩
  | 101 => ⟨S4x64x64x64, .f32⟩
  | 102 => ⟨S_, .f32⟩
  | 103 => ⟨S1x64x1x1, .f32⟩
  | 104 => ⟨S1x64x1x1, .f32⟩
  | 105 => ⟨S1x64x1x1, .f32⟩
  | 106 => ⟨S4x64x64x64, .f32⟩
  | 107 => ⟨S4x64x64x64, .f32⟩
  | 108 => ⟨S1x64x1x1, .f32⟩
  | 109 => ⟨S4x64x64x64, .f32⟩
  | 110 => ⟨S4x64x64x64, .f32⟩
  | 111 => ⟨S1x64x1x1, .f32⟩
  | 112 => ⟨S4x64x64x64, .f32⟩
  | 113 => ⟨S4x64x64x64, .f32⟩
  | 114 => ⟨S_, .f32⟩
  | 115 => ⟨S4x64x64x64, .f32⟩
  | 116 => ⟨S4x64x64x64, .f32⟩
  | 117 => ⟨S64x4x64x64, .f32⟩
  | 118 => ⟨S4x64x64x64, .f32⟩
  | 119 => ⟨S_, .f32⟩
  | 120 => ⟨S64, .f32⟩
  | 121 => ⟨S1x64x1x1, .f32⟩
  | 122 => ⟨S_, .f32⟩
  | 123 => ⟨S1x64x1x1, .f32⟩
  | 124 => ⟨S1x64x1x1, .f32⟩
  | 125 => ⟨S_, .i32⟩
  | 126 => ⟨S_, .f32⟩
  | 127 => ⟨S64, .f32⟩
  | _ => ⟨S4x256x64x64, .f32⟩

abbrev hbmTy0_2 (i : Nat) : BufTy := match i % 128 with
  | 0 => ⟨S1x64x1x1, .f32⟩
  | 1 => ⟨S_, .f32⟩
  | 2 => ⟨S1x64x1x1, .f32⟩
  | 3 => ⟨S1x64x1x1, .f32⟩
  | 4 => ⟨S4x64x64x64, .f32⟩
  | 5 => ⟨S4x64x64x64, .f32⟩
  | 6 => ⟨S4x64x64x64, .f32⟩
  | 7 => ⟨S_, .f32⟩
  | 8 => ⟨S_, .f32⟩
  | 9 => ⟨S_, .f32⟩
  | 10 => ⟨S_, .f32⟩
  | 11 => ⟨S64, .f32⟩
  | 12 => ⟨S1x64x1x1, .f32⟩
  | 13 => ⟨S1x64x1x1, .f32⟩
  | 14 => ⟨S1x64x1x1, .f32⟩
  | 15 => ⟨S_, .f32⟩
  | 16 => ⟨S_, .i1⟩
  | 17 => ⟨S_, .f32⟩
  | 18 => ⟨S_, .f32⟩
  | 19 => ⟨S1x64x1x1, .f32⟩
  | 20 => ⟨S1x64x1x1, .f32⟩
  | 21 => ⟨S4x64x64x64, .f32⟩
  | 22 => ⟨S4x64x64x64, .f32⟩
  | 23 => ⟨S_, .f32⟩
  | 24 => ⟨S1x64x1x1, .f32⟩
  | 25 => ⟨S1x64x1x1, .f32⟩
  | 26 => ⟨S1x64x1x1, .f32⟩
  | 27 => ⟨S4x64x64x64, .f32⟩
  | 28 => ⟨S4x64x64x64, .f32⟩
  | 29 => ⟨S1x64x1x1, .f32⟩
  | 30 => ⟨S4x64x64x64, .f32⟩
  | 31 => ⟨S4x64x64x64, .f32⟩
  | 32 => ⟨S1x64x1x1, .f32⟩
  | 33 => ⟨S4x64x64x64, .f32⟩
  | 34 => ⟨S4x64x64x64, .f32⟩
  | 35 => ⟨S_, .f32⟩
  | 36 => ⟨S4x64x64x64, .f32⟩
  | 37 => ⟨S4x64x64x64, .f32⟩
  | 38 => ⟨S64x4x64x64, .f32⟩
  | 39 => ⟨S4x64x64x64, .f32⟩
  | 40 => ⟨S_, .f32⟩
  | 41 => ⟨S64, .f32⟩
  | 42 => ⟨S1x64x1x1, .f32⟩
  | 43 => ⟨S_, .f32⟩
  | 44 => ⟨S1x64x1x1, .f32⟩
  | 45 => ⟨S1x64x1x1, .f32⟩
  | 46 => ⟨S_, .i32⟩
  | 47 => ⟨S_, .f32⟩
  | 48 => ⟨S64, .f32⟩
  | 49 => ⟨S1x64x1x1, .f32⟩
  | 50 => ⟨S_, .f32⟩
  | 51 => ⟨S1x64x1x1, .f32⟩
  | 52 => ⟨S1x64x1x1, .f32⟩
  | 53 => ⟨S4x64x64x64, .f32⟩
  | 54 => ⟨S4x64x64x64, .f32⟩
  | 55 => ⟨S4x64x64x64, .f32⟩
  | 56 => ⟨S_, .f32⟩
  | 57 => ⟨S_, .f32⟩
  | 58 => ⟨S_, .f32⟩
  | 59 => ⟨S_, .f32⟩
  | 60 => ⟨S64, .f32⟩
  | 61 => ⟨S1x64x1x1, .f32⟩
  | 62 => ⟨S1x64x1x1, .f32⟩
  | 63 => ⟨S1x64x1x1, .f32⟩
  | 64 => ⟨S_, .f32⟩
  | 65 => ⟨S_, .i1⟩
  | 66 => ⟨S_, .f32⟩
  | 67 => ⟨S_, .f32⟩
  | 68 => ⟨S1x64x1x1, .f32⟩
  | 69 => ⟨S1x64x1x1, .f32⟩
  | 70 => ⟨S4x64x64x64, .f32⟩
  | 71 => ⟨S4x64x64x64, .f32⟩
  | 72 => ⟨S_, .f32⟩
  | 73 => ⟨S1x64x1x1, .f32⟩
  | 74 => ⟨S1x64x1x1, .f32⟩
  | 75 => ⟨S1x64x1x1, .f32⟩
  | 76 => ⟨S4x64x64x64, .f32⟩
  | 77 => ⟨S4x64x64x64, .f32⟩
  | 78 => ⟨S1x64x1x1, .f32⟩
  | 79 => ⟨S4x64x64x64, .f32⟩
  | 80 => ⟨S4x64x64x64, .f32⟩
  | 81 => ⟨S1x64x1x1, .f32⟩
  | 82 => ⟨S4x64x64x64, .f32⟩
  | 83 => ⟨S4x64x64x64, .f32⟩
  | 84 => ⟨S_, .f32⟩
  | 85 => ⟨S4x64x64x64, .f32⟩
  | 86 => ⟨S4x64x64x64, .f32⟩
  | 87 => ⟨S4x64x4096, .f32⟩
  | 88 => ⟨S4x4096x64, .f32⟩
  | 89 => ⟨S4x64x4096, .f32⟩
  | 90 => ⟨S4x64x4096, .f32⟩
  | 91 => ⟨S4x4096x64, .f32⟩
  | 92 => ⟨S4x4096x4096, .f32⟩
  | 93 => ⟨S_, .f32⟩
  | 94 => ⟨S4x4096x4096, .f32⟩
  | 95 => ⟨S4x4096x4096, .f32⟩
  | 96 => ⟨S_, .f32⟩
  | 97 => ⟨S4x4096, .f32⟩
  | 98 => ⟨S_, .f32⟩
  | 99 => ⟨S4x4096, .f32⟩
  | 100 => ⟨S4x4096, .f32⟩
  | 101 => ⟨S4x4096x1, .f32⟩
  | 102 => ⟨S4x4096x4096, .f32⟩
  | 103 => ⟨S4x4096x4096, .f32⟩
  | 104 => ⟨S4x4096x4096, .f32⟩
  | 105 => ⟨S_, .f32⟩
  | 106 => ⟨S4x4096, .f32⟩
  | 107 => ⟨S4x4096x1, .f32⟩
  | 108 => ⟨S4x4096x4096, .f32⟩
  | 109 => ⟨S4x4096x4096, .f32⟩
  | 110 => ⟨S4x4096x64, .f32⟩
  | 111 => ⟨S4x64x4096, .f32⟩
  | 112 => ⟨S4x64x64x64, .f32⟩
  | 113 => ⟨S256x4x64x64, .f32⟩
  | 114 => ⟨S4x256x64x64, .f32⟩
  | 115 => ⟨S_, .f32⟩
  | 116 => ⟨S256, .f32⟩
  | 117 => ⟨S1x256x1x1, .f32⟩
  | 118 => ⟨S_, .f32⟩
  | 119 => ⟨S1x256x1x1, .f32⟩
  | 120 => ⟨S1x256x1x1, .f32⟩
  | 121 => ⟨S_, .i32⟩
  | 122 => ⟨S_, .f32⟩
  | 123 => ⟨S256, .f32⟩
  | 124 => ⟨S1x256x1x1, .f32⟩
  | 125 => ⟨S_, .f32⟩
  | 126 => ⟨S1x256x1x1, .f32⟩
  | 127 => ⟨S1x256x1x1, .f32⟩
  | _ => ⟨S4x256x64x64, .f32⟩

abbrev hbmTy0_3 (i : Nat) : BufTy := match i % 128 with
  | 0 => ⟨S4x256x64x64, .f32⟩
  | 1 => ⟨S4x256x64x64, .f32⟩
  | 2 => ⟨S4x256x64x64, .f32⟩
  | 3 => ⟨S_, .f32⟩
  | 4 => ⟨S_, .f32⟩
  | 5 => ⟨S_, .f32⟩
  | 6 => ⟨S_, .f32⟩
  | 7 => ⟨S256, .f32⟩
  | 8 => ⟨S1x256x1x1, .f32⟩
  | 9 => ⟨S1x256x1x1, .f32⟩
  | 10 => ⟨S1x256x1x1, .f32⟩
  | 11 => ⟨S_, .f32⟩
  | 12 => ⟨S_, .i1⟩
  | 13 => ⟨S_, .f32⟩
  | 14 => ⟨S_, .f32⟩
  | 15 => ⟨S1x256x1x1, .f32⟩
  | 16 => ⟨S1x256x1x1, .f32⟩
  | 17 => ⟨S4x256x64x64, .f32⟩
  | 18 => ⟨S4x256x64x64, .f32⟩
  | 19 => ⟨S_, .f32⟩
  | 20 => ⟨S1x256x1x1, .f32⟩
  | 21 => ⟨S1x256x1x1, .f32⟩
  | 22 => ⟨S1x256x1x1, .f32⟩
  | 23 => ⟨S4x256x64x64, .f32⟩
  | 24 => ⟨S4x256x64x64, .f32⟩
  | 25 => ⟨S1x256x1x1, .f32⟩
  | 26 => ⟨S4x256x64x64, .f32⟩
  | 27 => ⟨S4x256x64x64, .f32⟩
  | 28 => ⟨S1x256x1x1, .f32⟩
  | 29 => ⟨S4x256x64x64, .f32⟩
  | 30 => ⟨S4x256x64x64, .f32⟩
  | 31 => ⟨S_, .f32⟩
  | 32 => ⟨S4x256x64x64, .f32⟩
  | 33 => ⟨S4x256x64x64, .f32⟩
  | _ => ⟨S4x256x64x64, .f32⟩

abbrev hbmTy (i : Nat) : BufTy := match i / 128 with
  | 0 => hbmTy0_0 i
  | 1 => hbmTy0_1 i
  | 2 => hbmTy0_2 i
  | 3 => hbmTy0_3 i
  | _ => ⟨S4x256x64x64, .f32⟩

abbrev bufTy : (tb : Table) → Fin (tcTables nBuf tb) → BufTy
  | .hbm, ⟨i, _⟩ => hbmTy i
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_values : Ref sig .tc := ⟨.hbm, 25, rfl⟩
abbrev main_indices : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_2 : Ref sig .tc := ⟨.hbm, 54, rfl⟩
abbrev main_v24 : Ref sig .tc := ⟨.hbm, 55, rfl⟩
abbrev main_v25 : Ref sig .tc := ⟨.hbm, 56, rfl⟩
abbrev main_c_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_5 : Ref sig .tc := ⟨.hbm, 69, rfl⟩
abbrev main_v36 : Ref sig .tc := ⟨.hbm, 70, rfl⟩
abbrev main_v37 : Ref sig .tc := ⟨.hbm, 71, rfl⟩
abbrev main_c_6 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_8 : Ref sig .tc := ⟨.hbm, 87, rfl⟩
abbrev main_v51 : Ref sig .tc := ⟨.hbm, 88, rfl⟩
abbrev main_v52 : Ref sig .tc := ⟨.hbm, 89, rfl⟩
abbrev main_c_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_10 : Ref sig .tc := ⟨.hbm, 100, rfl⟩
abbrev main_v62 : Ref sig .tc := ⟨.hbm, 101, rfl⟩
abbrev main_v63 : Ref sig .tc := ⟨.hbm, 102, rfl⟩
abbrev main_cst_11 : Ref sig .tc := ⟨.hbm, 103, rfl⟩
abbrev main_v64 : Ref sig .tc := ⟨.hbm, 104, rfl⟩
abbrev main_v65 : Ref sig .tc := ⟨.hbm, 105, rfl⟩
abbrev main_c_12 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_cst_1 : Ref sig .tc := ⟨.hbm, 117, rfl⟩
abbrev main_call1_v8 : Ref sig .tc := ⟨.hbm, 118, rfl⟩
abbrev main_call1_cst_2 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_v12 : Ref sig .tc := ⟨.hbm, 123, rfl⟩
abbrev main_call1_cst_3 : Ref sig .tc := ⟨.hbm, 124, rfl⟩
abbrev main_call1_v13 : Ref sig .tc := ⟨.hbm, 125, rfl⟩
abbrev main_call1_cst_4 : Ref sig .tc := ⟨.hbm, 126, rfl⟩
abbrev main_call1_call0_v0 : Ref sig .tc := ⟨.hbm, 127, rfl⟩
abbrev main_call1_call0_v1 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_13 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_call2_cst : Ref sig .tc := ⟨.hbm, 144, rfl⟩
abbrev main_call2_v0 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_14 : Ref sig .tc := ⟨.hbm, 149, rfl⟩
abbrev main_v83 : Ref sig .tc := ⟨.hbm, 150, rfl⟩
abbrev main_v84 : Ref sig .tc := ⟨.hbm, 151, rfl⟩
abbrev main_cst_15 : Ref sig .tc := ⟨.hbm, 152, rfl⟩
abbrev main_v85 : Ref sig .tc := ⟨.hbm, 153, rfl⟩
abbrev main_v86 : Ref sig .tc := ⟨.hbm, 154, rfl⟩
abbrev main_c_16 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_v12 : Ref sig .tc := ⟨.hbm, 172, rfl⟩
abbrev main_call3_cst_3 : Ref sig .tc := ⟨.hbm, 173, rfl⟩
abbrev main_call3_v13 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_cst_17 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_call4_cst : Ref sig .tc := ⟨.hbm, 193, rfl⟩
abbrev main_call4_v0 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_cst_18 : Ref sig .tc := ⟨.hbm, 198, rfl⟩
abbrev main_v104 : Ref sig .tc := ⟨.hbm, 199, rfl⟩
abbrev main_v105 : Ref sig .tc := ⟨.hbm, 200, rfl⟩
abbrev main_cst_19 : Ref sig .tc := ⟨.hbm, 201, rfl⟩
abbrev main_v106 : Ref sig .tc := ⟨.hbm, 202, rfl⟩
abbrev main_v107 : Ref sig .tc := ⟨.hbm, 203, rfl⟩
abbrev main_c_20 : Ref sig .tc := ⟨.hbm, 204, rfl⟩
abbrev main_call5_cst : Ref sig .tc := ⟨.hbm, 205, rfl⟩
abbrev main_call5_v0 : Ref sig .tc := ⟨.hbm, 206, rfl⟩
abbrev main_call5_v1 : Ref sig .tc := ⟨.hbm, 207, rfl⟩
abbrev main_call5_cst_0 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_call5_v5 : Ref sig .tc := ⟨.hbm, 212, rfl⟩
abbrev main_call5_v6 : Ref sig .tc := ⟨.hbm, 213, rfl⟩
abbrev main_call5_v7 : Ref sig .tc := ⟨.hbm, 214, rfl⟩
abbrev main_call5_cst_1 : Ref sig .tc := ⟨.hbm, 215, rfl⟩
abbrev main_call5_v8 : Ref sig .tc := ⟨.hbm, 216, rfl⟩
abbrev main_call5_cst_2 : Ref sig .tc := ⟨.hbm, 217, rfl⟩
abbrev main_call5_v9 : Ref sig .tc := ⟨.hbm, 218, rfl⟩
abbrev main_call5_v10 : Ref sig .tc := ⟨.hbm, 219, rfl⟩
abbrev main_call5_v11 : Ref sig .tc := ⟨.hbm, 220, rfl⟩
abbrev main_call5_v12 : Ref sig .tc := ⟨.hbm, 221, rfl⟩
abbrev main_call5_cst_3 : Ref sig .tc := ⟨.hbm, 222, rfl⟩
abbrev main_call5_v13 : Ref sig .tc := ⟨.hbm, 223, rfl⟩
abbrev main_call5_cst_4 : Ref sig .tc := ⟨.hbm, 224, rfl⟩
abbrev main_call5_call0_v0 : Ref sig .tc := ⟨.hbm, 225, rfl⟩
abbrev main_call5_call0_v1 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_cst_21 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_call6_cst : Ref sig .tc := ⟨.hbm, 242, rfl⟩
abbrev main_call6_v0 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_cst_22 : Ref sig .tc := ⟨.hbm, 247, rfl⟩
abbrev main_v125 : Ref sig .tc := ⟨.hbm, 248, rfl⟩
abbrev main_v126 : Ref sig .tc := ⟨.hbm, 249, rfl⟩
abbrev main_cst_23 : Ref sig .tc := ⟨.hbm, 250, rfl⟩
abbrev main_v127 : Ref sig .tc := ⟨.hbm, 251, rfl⟩
abbrev main_v128 : Ref sig .tc := ⟨.hbm, 252, rfl⟩
abbrev main_c_24 : Ref sig .tc := ⟨.hbm, 253, rfl⟩
abbrev main_call7_cst : Ref sig .tc := ⟨.hbm, 254, rfl⟩
abbrev main_call7_v0 : Ref sig .tc := ⟨.hbm, 255, rfl⟩
abbrev main_call7_v1 : Ref sig .tc := ⟨.hbm, 256, rfl⟩
abbrev main_call7_cst_0 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_call7_v5 : Ref sig .tc := ⟨.hbm, 261, rfl⟩
abbrev main_call7_v6 : Ref sig .tc := ⟨.hbm, 262, rfl⟩
abbrev main_call7_v7 : Ref sig .tc := ⟨.hbm, 263, rfl⟩
abbrev main_call7_cst_1 : Ref sig .tc := ⟨.hbm, 264, rfl⟩
abbrev main_call7_v8 : Ref sig .tc := ⟨.hbm, 265, rfl⟩
abbrev main_call7_cst_2 : Ref sig .tc := ⟨.hbm, 266, rfl⟩
abbrev main_call7_v9 : Ref sig .tc := ⟨.hbm, 267, rfl⟩
abbrev main_call7_v10 : Ref sig .tc := ⟨.hbm, 268, rfl⟩
abbrev main_call7_v11 : Ref sig .tc := ⟨.hbm, 269, rfl⟩
abbrev main_call7_v12 : Ref sig .tc := ⟨.hbm, 270, rfl⟩
abbrev main_call7_cst_3 : Ref sig .tc := ⟨.hbm, 271, rfl⟩
abbrev main_call7_v13 : Ref sig .tc := ⟨.hbm, 272, rfl⟩
abbrev main_call7_cst_4 : Ref sig .tc := ⟨.hbm, 273, rfl⟩
abbrev main_call7_call0_v0 : Ref sig .tc := ⟨.hbm, 274, rfl⟩
abbrev main_call7_call0_v1 : Ref sig .tc := ⟨.hbm, 275, rfl⟩
abbrev main_v129 : Ref sig .tc := ⟨.hbm, 276, rfl⟩
abbrev main_v130 : Ref sig .tc := ⟨.hbm, 277, rfl⟩
abbrev main_v131 : Ref sig .tc := ⟨.hbm, 278, rfl⟩
abbrev main_cst_25 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_call8_cst : Ref sig .tc := ⟨.hbm, 291, rfl⟩
abbrev main_call8_v0 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_cst_26 : Ref sig .tc := ⟨.hbm, 296, rfl⟩
abbrev main_v146 : Ref sig .tc := ⟨.hbm, 297, rfl⟩
abbrev main_v147 : Ref sig .tc := ⟨.hbm, 298, rfl⟩
abbrev main_cst_27 : Ref sig .tc := ⟨.hbm, 299, rfl⟩
abbrev main_v148 : Ref sig .tc := ⟨.hbm, 300, rfl⟩
abbrev main_v149 : Ref sig .tc := ⟨.hbm, 301, rfl⟩
abbrev main_c_28 : Ref sig .tc := ⟨.hbm, 302, rfl⟩
abbrev main_call9_cst : Ref sig .tc := ⟨.hbm, 303, rfl⟩
abbrev main_call9_v0 : Ref sig .tc := ⟨.hbm, 304, rfl⟩
abbrev main_call9_v1 : Ref sig .tc := ⟨.hbm, 305, rfl⟩
abbrev main_call9_cst_0 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_call9_v5 : Ref sig .tc := ⟨.hbm, 310, rfl⟩
abbrev main_call9_v6 : Ref sig .tc := ⟨.hbm, 311, rfl⟩
abbrev main_call9_v7 : Ref sig .tc := ⟨.hbm, 312, rfl⟩
abbrev main_call9_cst_1 : Ref sig .tc := ⟨.hbm, 313, rfl⟩
abbrev main_call9_v8 : Ref sig .tc := ⟨.hbm, 314, rfl⟩
abbrev main_call9_cst_2 : Ref sig .tc := ⟨.hbm, 315, rfl⟩
abbrev main_call9_v9 : Ref sig .tc := ⟨.hbm, 316, rfl⟩
abbrev main_call9_v10 : Ref sig .tc := ⟨.hbm, 317, rfl⟩
abbrev main_call9_v11 : Ref sig .tc := ⟨.hbm, 318, rfl⟩
abbrev main_call9_v12 : Ref sig .tc := ⟨.hbm, 319, rfl⟩
abbrev main_call9_cst_3 : Ref sig .tc := ⟨.hbm, 320, rfl⟩
abbrev main_call9_v13 : Ref sig .tc := ⟨.hbm, 321, rfl⟩
abbrev main_call9_cst_4 : Ref sig .tc := ⟨.hbm, 322, rfl⟩
abbrev main_call9_call0_v0 : Ref sig .tc := ⟨.hbm, 323, rfl⟩
abbrev main_call9_call0_v1 : Ref sig .tc := ⟨.hbm, 324, rfl⟩
abbrev main_v150 : Ref sig .tc := ⟨.hbm, 325, rfl⟩
abbrev main_v151 : Ref sig .tc := ⟨.hbm, 326, rfl⟩
abbrev main_v152 : Ref sig .tc := ⟨.hbm, 327, rfl⟩
abbrev main_cst_29 : Ref sig .tc := ⟨.hbm, 328, rfl⟩
abbrev main_v153 : Ref sig .tc := ⟨.hbm, 329, rfl⟩
abbrev main_v154 : Ref sig .tc := ⟨.hbm, 330, rfl⟩
abbrev main_v155 : Ref sig .tc := ⟨.hbm, 331, rfl⟩
abbrev main_v156 : Ref sig .tc := ⟨.hbm, 332, rfl⟩
abbrev main_v157 : Ref sig .tc := ⟨.hbm, 333, rfl⟩
abbrev main_v158 : Ref sig .tc := ⟨.hbm, 334, rfl⟩
abbrev main_v159 : Ref sig .tc := ⟨.hbm, 335, rfl⟩
abbrev main_v160 : Ref sig .tc := ⟨.hbm, 336, rfl⟩
abbrev main_v161 : Ref sig .tc := ⟨.hbm, 337, rfl⟩
abbrev main_v162 : Ref sig .tc := ⟨.hbm, 338, rfl⟩
abbrev main_v163 : Ref sig .tc := ⟨.hbm, 339, rfl⟩
abbrev main_call10_cst : Ref sig .tc := ⟨.hbm, 340, rfl⟩
abbrev main_call10_v0 : Ref sig .tc := ⟨.hbm, 341, rfl⟩
abbrev main_v164 : Ref sig .tc := ⟨.hbm, 342, rfl⟩
abbrev main_v165 : Ref sig .tc := ⟨.hbm, 343, rfl⟩
abbrev main_v166 : Ref sig .tc := ⟨.hbm, 344, rfl⟩
abbrev main_v167 : Ref sig .tc := ⟨.hbm, 345, rfl⟩
abbrev main_v168 : Ref sig .tc := ⟨.hbm, 346, rfl⟩
abbrev main_v169 : Ref sig .tc := ⟨.hbm, 347, rfl⟩
abbrev main_v170 : Ref sig .tc := ⟨.hbm, 348, rfl⟩
abbrev main_cst_30 : Ref sig .tc := ⟨.hbm, 349, rfl⟩
abbrev main_v171 : Ref sig .tc := ⟨.hbm, 350, rfl⟩
abbrev main_v172 : Ref sig .tc := ⟨.hbm, 351, rfl⟩
abbrev main_cst_31 : Ref sig .tc := ⟨.hbm, 352, rfl⟩
abbrev main_v173 : Ref sig .tc := ⟨.hbm, 353, rfl⟩
abbrev main_cst_32 : Ref sig .tc := ⟨.hbm, 354, rfl⟩
abbrev main_v174 : Ref sig .tc := ⟨.hbm, 355, rfl⟩
abbrev main_v175 : Ref sig .tc := ⟨.hbm, 356, rfl⟩
abbrev main_v176 : Ref sig .tc := ⟨.hbm, 357, rfl⟩
abbrev main_v177 : Ref sig .tc := ⟨.hbm, 358, rfl⟩
abbrev main_v178 : Ref sig .tc := ⟨.hbm, 359, rfl⟩
abbrev main_v179 : Ref sig .tc := ⟨.hbm, 360, rfl⟩
abbrev main_cst_33 : Ref sig .tc := ⟨.hbm, 361, rfl⟩
abbrev main_v180 : Ref sig .tc := ⟨.hbm, 362, rfl⟩
abbrev main_v181 : Ref sig .tc := ⟨.hbm, 363, rfl⟩
abbrev main_v182 : Ref sig .tc := ⟨.hbm, 364, rfl⟩
abbrev main_v183 : Ref sig .tc := ⟨.hbm, 365, rfl⟩
abbrev main_v184 : Ref sig .tc := ⟨.hbm, 366, rfl⟩
abbrev main_v185 : Ref sig .tc := ⟨.hbm, 367, rfl⟩
abbrev main_v186 : Ref sig .tc := ⟨.hbm, 368, rfl⟩
abbrev main_v187 : Ref sig .tc := ⟨.hbm, 369, rfl⟩
abbrev main_v188 : Ref sig .tc := ⟨.hbm, 370, rfl⟩
abbrev main_cst_34 : Ref sig .tc := ⟨.hbm, 371, rfl⟩
abbrev main_v189 : Ref sig .tc := ⟨.hbm, 372, rfl⟩
abbrev main_v190 : Ref sig .tc := ⟨.hbm, 373, rfl⟩
abbrev main_cst_35 : Ref sig .tc := ⟨.hbm, 374, rfl⟩
abbrev main_v191 : Ref sig .tc := ⟨.hbm, 375, rfl⟩
abbrev main_v192 : Ref sig .tc := ⟨.hbm, 376, rfl⟩
abbrev main_c_36 : Ref sig .tc := ⟨.hbm, 377, rfl⟩
abbrev main_call11_cst : Ref sig .tc := ⟨.hbm, 378, rfl⟩
abbrev main_call11_v0 : Ref sig .tc := ⟨.hbm, 379, rfl⟩
abbrev main_call11_v1 : Ref sig .tc := ⟨.hbm, 380, rfl⟩
abbrev main_call11_cst_0 : Ref sig .tc := ⟨.hbm, 381, rfl⟩
abbrev main_call11_v2 : Ref sig .tc := ⟨.hbm, 382, rfl⟩
abbrev main_call11_v3 : Ref sig .tc := ⟨.hbm, 383, rfl⟩
abbrev main_call11_v4 : Ref sig .tc := ⟨.hbm, 384, rfl⟩
abbrev main_call11_v5 : Ref sig .tc := ⟨.hbm, 385, rfl⟩
abbrev main_call11_v6 : Ref sig .tc := ⟨.hbm, 386, rfl⟩
abbrev main_call11_v7 : Ref sig .tc := ⟨.hbm, 387, rfl⟩
abbrev main_call11_cst_1 : Ref sig .tc := ⟨.hbm, 388, rfl⟩
abbrev main_call11_v8 : Ref sig .tc := ⟨.hbm, 389, rfl⟩
abbrev main_call11_cst_2 : Ref sig .tc := ⟨.hbm, 390, rfl⟩
abbrev main_call11_v9 : Ref sig .tc := ⟨.hbm, 391, rfl⟩
abbrev main_call11_v10 : Ref sig .tc := ⟨.hbm, 392, rfl⟩
abbrev main_call11_v11 : Ref sig .tc := ⟨.hbm, 393, rfl⟩
abbrev main_call11_v12 : Ref sig .tc := ⟨.hbm, 394, rfl⟩
abbrev main_call11_cst_3 : Ref sig .tc := ⟨.hbm, 395, rfl⟩
abbrev main_call11_v13 : Ref sig .tc := ⟨.hbm, 396, rfl⟩
abbrev main_call11_cst_4 : Ref sig .tc := ⟨.hbm, 397, rfl⟩
abbrev main_call11_call0_v0 : Ref sig .tc := ⟨.hbm, 398, rfl⟩
abbrev main_call11_call0_v1 : Ref sig .tc := ⟨.hbm, 399, rfl⟩
abbrev main_v193 : Ref sig .tc := ⟨.hbm, 400, rfl⟩
abbrev main_v194 : Ref sig .tc := ⟨.hbm, 401, rfl⟩
abbrev main_v195 : Ref sig .tc := ⟨.hbm, 402, rfl⟩
abbrev main_cst_37 : Ref sig .tc := ⟨.hbm, 403, rfl⟩
abbrev main_v196 : Ref sig .tc := ⟨.hbm, 404, rfl⟩
abbrev main_v197 : Ref sig .tc := ⟨.hbm, 405, rfl⟩
abbrev main_v198 : Ref sig .tc := ⟨.hbm, 406, rfl⟩
abbrev main_v199 : Ref sig .tc := ⟨.hbm, 407, rfl⟩
abbrev main_v200 : Ref sig .tc := ⟨.hbm, 408, rfl⟩
abbrev main_v201 : Ref sig .tc := ⟨.hbm, 409, rfl⟩
abbrev main_v202 : Ref sig .tc := ⟨.hbm, 410, rfl⟩
abbrev main_v203 : Ref sig .tc := ⟨.hbm, 411, rfl⟩
abbrev main_v204 : Ref sig .tc := ⟨.hbm, 412, rfl⟩
abbrev main_v205 : Ref sig .tc := ⟨.hbm, 413, rfl⟩
abbrev main_v206 : Ref sig .tc := ⟨.hbm, 414, rfl⟩
abbrev main_call12_cst : Ref sig .tc := ⟨.hbm, 415, rfl⟩
abbrev main_call12_v0 : Ref sig .tc := ⟨.hbm, 416, rfl⟩
abbrev main_v207 : Ref sig .tc := ⟨.hbm, 417, rfl⟩

abbrev nD : Nat := 1
abbrev τ : Topo := Topo.v7x

variable {F : FTy → Type} [FloatOps F]
-- ==== Proof.Model.lean ====
/- The layer over the real numbers: what the kernel and the reference both compute at finite inputs, and the identities
   between the ways the two write it. Nothing here speaks of a program. -/
module

public import Idealize.ShloMosaic.Lib.Pointwise

@[expose] public section

noncomputable section

namespace Cert.Model

/-! ## Finite sums and maxima of real numbers, read in the extended reals -/

/-- A finite sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many extended reals below `⊤`, not all of them `⊥`, is a real number. -/
theorem fold_max_real {n : ℕ} (f : Fin n → EReal) (ht : ∀ i, f i ≠ ⊤) (i : Fin n) (hb : f i ≠ ⊥) :
    ∃ m : ℝ, Finset.univ.fold max ⊥ f = (m : EReal) := by
  have hle : f i ≤ Finset.univ.fold max ⊥ f := (Finset.le_fold_max _).2 (Or.inr ⟨i, Finset.mem_univ i, le_rfl⟩)
  have hlt : Finset.univ.fold max ⊥ f < ⊤ :=
    (Finset.fold_max_lt _).2 ⟨bot_lt_top, fun j _ => lt_top_iff_ne_top.2 (ht j)⟩
  have hne : Finset.univ.fold max ⊥ f ≠ ⊥ := fun h => hb (le_bot_iff.1 (h ▸ hle))
  exact ⟨_, (EReal.coe_toReal hlt.ne hne).symm⟩

/-- A sum that is zero off one index is its term there. -/
theorem sum_pick {n : ℕ} {M : Type} [AddCommMonoid M] (f : Fin n → M) (k : Fin n) :
    (∑ j : Fin n, if j = k then f j else 0) = f k := by
  simp

/-! ## The convolution, the normalisation and the layer -/

/-- The small number under the root: the single-precision number nearest `1e-5`. -/
def eps : ℝ := 10995116 / 1099511627776

theorem eps_pos : 0 < eps := by unfold eps; norm_num

/-- The `1 × 1` convolution: at every pixel the channels' combinations by the columns of `w`. -/
def conv {n m : ℕ} (w : Fin n → Fin m → ℝ) (f : Fin 4 → Fin n → Fin 4096 → ℝ) (b : Fin 4) (o : Fin m) (i : Fin 4096) : ℝ :=
  ∑ c, w c o * f b c i

/-- The mean of a channel over batch and pixels. -/
def mean (y : Fin 4 → Fin 4096 → ℝ) : ℝ := (∑ b, ∑ i, y b i) / 16384

/-- The variance of a channel over batch and pixels. -/
def var (y : Fin 4 → Fin 4096 → ℝ) : ℝ := (∑ b, ∑ i, (y b i - mean y) * (y b i - mean y)) / 16384

/-- A channel normalised, scaled, shifted and cut at zero. -/
def bn (g β : ℝ) (y : Fin 4 → Fin 4096 → ℝ) (b : Fin 4) (i : Fin 4096) : ℝ :=
  max (g * ((y b i - mean y) / Real.sqrt (var y + eps)) + β) 0

/-- A whole array normalised, scaled, shifted and cut, channel by channel. -/
def act {m : ℕ} (g β : Fin m → ℝ) (y : Fin 4 → Fin m → Fin 4096 → ℝ) (b : Fin 4) (o : Fin m) (i : Fin 4096) : ℝ :=
  bn (g o) (β o) (fun b i => y b o i) b i

/-- Convolution, normalisation and cut: one layer. -/
def cba {n m : ℕ} (w : Fin n → Fin m → ℝ) (g β : Fin m → ℝ) (f : Fin 4 → Fin n → Fin 4096 → ℝ)
    (b : Fin 4) (o : Fin m) (i : Fin 4096) : ℝ :=
  bn (g o) (β o) (fun b i => conv w f b o i) b i

theorem var_nonneg (y : Fin 4 → Fin 4096 → ℝ) : 0 ≤ var y :=
  div_nonneg (Finset.sum_nonneg fun _ _ => Finset.sum_nonneg fun _ _ => mul_self_nonneg _) (by norm_num)

/-- The variance is the mean of the squares less the square of the mean. -/
theorem var_eq (y : Fin 4 → Fin 4096 → ℝ) : (∑ b, ∑ i, y b i * y b i) / 16384 - mean y * mean y = var y := by
  have h : ∑ b, ∑ i, (y b i - mean y) * (y b i - mean y)
      = (∑ b, ∑ i, y b i * y b i) - 2 * mean y * (∑ b, ∑ i, y b i) + 16384 * (mean y * mean y) := by
    have e : ∀ b i, (y b i - mean y) * (y b i - mean y) = y b i * y b i - 2 * mean y * y b i + mean y * mean y :=
      fun b i => by ring
    simp only [e, Finset.sum_add_distrib, Finset.sum_sub_distrib, ← Finset.mul_sum, Finset.sum_const,
      Finset.card_univ, Fintype.card_fin, nsmul_eq_mul]
    push_cast
    ring
  have hs : (∑ b, ∑ i, y b i) = 16384 * mean y := by unfold mean; ring
  unfold var
  rw [h, hs]
  ring

/-- The mean, the four batches written out. -/
theorem mean4 (y : Fin 4 → Fin 4096 → ℝ) :
    (∑ i, y 0 i + ∑ i, y 1 i + ∑ i, y 2 i + ∑ i, y 3 i) / 16384 = mean y := by
  unfold mean; rw [Fin.sum_univ_four]

/-- The variance from the sum of squares, the four batches written out. -/
theorem var4 (y : Fin 4 → Fin 4096 → ℝ) :
    (∑ i, y 0 i * y 0 i + ∑ i, y 1 i * y 1 i + ∑ i, y 2 i * y 2 i + ∑ i, y 3 i * y 3 i) / 16384 - mean y * mean y = var y := by
  rw [← var_eq y, Fin.sum_univ_four]

/-- The layer's value as a slope and an offset of the channel. -/
theorem bn_eq (g β : ℝ) (y : Fin 4 → Fin 4096 → ℝ) (b : Fin 4) (i : Fin 4096) :
    max (y b i * ((Real.sqrt (var y + eps))⁻¹ * g) + (β - mean y * ((Real.sqrt (var y + eps))⁻¹ * g))) 0 = bn g β y b i := by
  unfold bn
  congr 1
  rw [div_eq_mul_inv]
  ring

/-! ## The classes -/

/-- `k` is the class of the greatest logit, the first of equals. -/
def IsSeg (l : Fin 150 → ℝ) (k : Fin 150) : Prop := (∀ j, l j ≤ l k) ∧ ∀ j, j < k → l j < l k

theorem exists_isSeg (l : Fin 150 → ℝ) : ∃ k, IsSeg l k := by
  classical
  obtain ⟨k, -, hk⟩ := Finset.exists_max_image Finset.univ l ⟨0, Finset.mem_univ _⟩
  let S := Finset.univ.filter fun k => ∀ j, l j ≤ l k
  have hS : S.Nonempty := ⟨k, by simpa [S] using fun j => hk j (Finset.mem_univ j)⟩
  refine ⟨S.min' hS, ?_, fun j hj => ?_⟩
  · simpa [S] using S.min'_mem hS
  · have hm : ∀ j, l j ≤ l (S.min' hS) := by simpa [S] using S.min'_mem hS
    refine lt_of_le_of_ne (hm j) fun h => ?_
    have : j ∈ S := by simpa [S] using fun i => (hm i).trans h.symm.le
    exact absurd (S.min'_le j this) (not_le.2 hj)

theorem isSeg_unique {l : Fin 150 → ℝ} {k k' : Fin 150} (h : IsSeg l k) (h' : IsSeg l k') : k = k' := by
  rcases lt_trichotomy k k' with hl | he | hl
  · exact absurd (h'.2 k hl) (not_lt.2 (h.1 k'))
  · exact he
  · exact absurd (h.2 k' hl) (not_lt.2 (h'.1 k))

variable (L : Fin 4 → Fin 150 → Fin 4096 → ℝ) (X : Fin 4 → Fin 256 → Fin 4096 → ℝ)

/-- A pixel's class. -/
def seg (b : Fin 4) (i : Fin 4096) : Fin 150 := Classical.choose (exists_isSeg fun k => L b k i)

theorem seg_spec (b : Fin 4) (i : Fin 4096) : IsSeg (fun k => L b k i) (seg L b i) :=
  Classical.choose_spec (exists_isSeg fun k => L b k i)

/-- A pixel's greatest logit. -/
def top (b : Fin 4) (i : Fin 4096) : ℝ := L b (seg L b i) i

theorem le_top (b : Fin 4) (k : Fin 150) (i : Fin 4096) : L b k i ≤ top L b i := (seg_spec L b i).1 k

/-- The fold of the maximum over a pixel's logits is its greatest logit. -/
theorem fold_top (b : Fin 4) (i : Fin 4096) :
    Finset.univ.fold max ⊥ (fun k => ((L b k i : ℝ) : EReal)) = ((top L b i : ℝ) : EReal) := by
  apply le_antisymm
  · exact (Finset.fold_max_le _).2 ⟨bot_le, fun k _ => EReal.coe_le_coe_iff.2 (le_top L b k i)⟩
  · exact (Finset.le_fold_max _).2 (Or.inr ⟨seg L b i, Finset.mem_univ _, le_rfl⟩)

/-- The sum of the exponentials of the greatest logits of a class's pixels. -/
def den (b : Fin 4) (k : Fin 150) : ℝ := ∑ i, if seg L b i = k then Real.exp (top L b i) else 0

theorem den_pos (b : Fin 4) (i : Fin 4096) : 0 < den L b (seg L b i) := by
  unfold den
  refine Finset.sum_pos' (fun j _ => ?_) ⟨i, Finset.mem_univ _, ?_⟩
  · split <;> positivity
  · rw [if_pos rfl]; positivity

/-- A pixel's weight in its class. -/
def wgt (b : Fin 4) (i : Fin 4096) : ℝ := Real.exp (top L b i) / den L b (seg L b i)

/-- A class's mean of the features by the weights. -/
def ctx (b : Fin 4) (c : Fin 256) (k : Fin 150) : ℝ := ∑ i, if seg L b i = k then X b c i * wgt L b i else 0

/-- At a pixel the mean of its class. -/
def feat (b : Fin 4) (c : Fin 256) (i : Fin 4096) : ℝ := ctx L X b c (seg L b i)

/-- The weight may be computed with any real number `m` of the class taken off the exponents. -/
theorem wgt_shift (b : Fin 4) (i : Fin 4096) (M : Fin 150 → ℝ) :
    Real.exp (top L b i - M (seg L b i))
      / (∑ j, if seg L b j = seg L b i then Real.exp (top L b j - M (seg L b j)) else 0) = wgt L b i := by
  have h : (∑ j, if seg L b j = seg L b i then Real.exp (top L b j - M (seg L b j)) else 0)
      = den L b (seg L b i) * Real.exp (-M (seg L b i)) := by
    unfold den
    rw [Finset.sum_mul]
    refine Finset.sum_congr rfl fun j _ => ?_
    split
    · next h => rw [h, sub_eq_add_neg, Real.exp_add]
    · rw [zero_mul]
  rw [h, sub_eq_add_neg, Real.exp_add, wgt, mul_div_mul_right _ _ (Real.exp_ne_zero _)]

/-- What is divided by there is positive. -/
theorem shift_pos (b : Fin 4) (i : Fin 4096) (M : Fin 150 → ℝ) :
    0 < ∑ j, if seg L b j = seg L b i then Real.exp (top L b j - M (seg L b j)) else 0 := by
  refine Finset.sum_pos' (fun j _ => ?_) ⟨i, Finset.mem_univ _, ?_⟩
  · split <;> positivity
  · rw [if_pos rfl]; positivity

/-! ## The attention -/

variable (q k v : Fin 4 → Fin 64 → Fin 4096 → ℝ)

/-- The likeness of two pixels. -/
def sim (b : Fin 4) (i j : Fin 4096) : ℝ := (∑ t, q b t i * k b t j) * (1 / 8)

/-- The weight of pixel `j` at pixel `i`. -/
def att (b : Fin 4) (i j : Fin 4096) : ℝ := Real.exp (sim q k b i j) / ∑ j', Real.exp (sim q k b i j')

/-- The values combined by the weights. -/
def mix (b : Fin 4) (t : Fin 64) (i : Fin 4096) : ℝ := ∑ j, v b t j * att q k b i j

theorem att_shift (b : Fin 4) (i j : Fin 4096) (m : ℝ) :
    Real.exp (sim q k b i j - m) / (∑ j', Real.exp (sim q k b i j' - m)) = att q k b i j := by
  have h : (∑ j', Real.exp (sim q k b i j' - m)) = (∑ j', Real.exp (sim q k b i j')) * Real.exp (-m) := by
    rw [Finset.sum_mul]
    exact Finset.sum_congr rfl fun j _ => by rw [sub_eq_add_neg, Real.exp_add]
  rw [h, sub_eq_add_neg, Real.exp_add, att, mul_div_mul_right _ _ (Real.exp_ne_zero _)]

theorem exp_sum_pos (f : Fin 4096 → ℝ) : 0 < ∑ j, Real.exp (f j) :=
  Finset.sum_pos (fun _ _ => Real.exp_pos _) ⟨0, Finset.mem_univ _⟩

/-- The likeness with the scale taken into the first factor. -/
theorem sim_scaled (b : Fin 4) (i j : Fin 4096) : (∑ t, q b t i * (1 / 8) * k b t j) = sim q k b i j := by
  rw [sim, Finset.sum_mul]
  exact Finset.sum_congr rfl fun t _ => by ring

end Cert.Model

end
-- ==== Proof.Args.lean ====
/- The arguments at real numbers, and the result as a function of them. -/
module

public import proofs.«01_k».proof.Proof.Model
public import Idealize.ShloMosaic.PureOps.Ideal
public import Idealize.ShloMosaic.Lib.Pointwise

@[expose] public section

noncomputable section

namespace Cert.Model

open Idealize.ShloMosaic

/-- The arguments that the result depends on: the features and the logits by batch, channel and pixel, and each
    layer's weights, gain and offset. -/
structure Args where
  X : Fin 4 → Fin 256 → Fin 4096 → ℝ
  L : Fin 4 → Fin 150 → Fin 4096 → ℝ
  wq1 : Fin 256 → Fin 64 → ℝ
  gq1 : Fin 64 → ℝ
  bq1 : Fin 64 → ℝ
  wq2 : Fin 64 → Fin 64 → ℝ
  gq2 : Fin 64 → ℝ
  bq2 : Fin 64 → ℝ
  wk1 : Fin 256 → Fin 64 → ℝ
  gk1 : Fin 64 → ℝ
  bk1 : Fin 64 → ℝ
  wk2 : Fin 64 → Fin 64 → ℝ
  gk2 : Fin 64 → ℝ
  bk2 : Fin 64 → ℝ
  wv : Fin 256 → Fin 64 → ℝ
  gv : Fin 64 → ℝ
  bv : Fin 64 → ℝ
  wo : Fin 64 → Fin 256 → ℝ
  go : Fin 256 → ℝ
  bo : Fin 256 → ℝ

namespace Args

variable (A : Args)

/-- The queries. -/
def q : Fin 4 → Fin 64 → Fin 4096 → ℝ := cba A.wq2 A.gq2 A.bq2 (cba A.wq1 A.gq1 A.bq1 A.X)
/-- The keys. -/
def k : Fin 4 → Fin 64 → Fin 4096 → ℝ := cba A.wk2 A.gk2 A.bk2 (cba A.wk1 A.gk1 A.bk1 (feat A.L A.X))
/-- The values. -/
def v : Fin 4 → Fin 64 → Fin 4096 → ℝ := cba A.wv A.gv A.bv (feat A.L A.X)
/-- The result. -/
def out : Fin 4 → Fin 256 → Fin 4096 → ℝ := cba A.wo A.go A.bo (mix A.q A.k A.v)

end Args

/-- The row of a pixel. -/
def row (i : Fin 4096) : Fin 64 := ⟨i.val / 64, by omega⟩
/-- The column of a pixel. -/
def col (i : Fin 4096) : Fin 64 := ⟨i.val % 64, by omega⟩
/-- The pixel at a row and a column. -/
def pixel (h w : Fin 64) : Fin 4096 := ⟨h.val * 64 + w.val, by omega⟩

theorem row_pixel (h w : Fin 64) : row (pixel h w) = h := by
  apply Fin.ext; simp only [row, pixel]; omega
theorem col_pixel (h w : Fin 64) : col (pixel h w) = w := by
  apply Fin.ext; simp only [col, pixel]; omega
theorem pixel_row_col (i : Fin 4096) : pixel (row i) (col i) = i := by
  apply Fin.ext; simp only [row, col, pixel]; omega

/-- The argument arrays hold the real numbers of `A`. -/
structure Holds (A : Args) (x0 : FVec Ideal ⟨4, ![4, 256, 64, 64]⟩ .f32) (x1 : FVec Ideal ⟨4, ![4, 150, 64, 64]⟩ .f32)
    (x3 : FVec Ideal ⟨2, ![256, 64]⟩ .f32) (x4 x5 : FVec Ideal ⟨1, ![64]⟩ .f32)
    (x6 : FVec Ideal ⟨2, ![64, 64]⟩ .f32) (x7 x8 : FVec Ideal ⟨1, ![64]⟩ .f32)
    (x9 : FVec Ideal ⟨2, ![256, 64]⟩ .f32) (x10 x11 : FVec Ideal ⟨1, ![64]⟩ .f32)
    (x12 : FVec Ideal ⟨2, ![64, 64]⟩ .f32) (x13 x14 : FVec Ideal ⟨1, ![64]⟩ .f32)
    (x15 : FVec Ideal ⟨2, ![256, 64]⟩ .f32) (x16 x17 : FVec Ideal ⟨1, ![64]⟩ .f32)
    (x18 : FVec Ideal ⟨2, ![64, 256]⟩ .f32) (x19 x20 : FVec Ideal ⟨1, ![256]⟩ .f32) : Prop where
  x : ∀ b c i, x0 (ix4 b c (row i) (col i)) = ((A.X b c i : ℝ) : EReal)
  l : ∀ b c i, x1 (ix4 b c (row i) (col i)) = ((A.L b c i : ℝ) : EReal)
  wq1 : ∀ c o, x3 (ix2 c o) = ((A.wq1 c o : ℝ) : EReal)
  gq1 : ∀ o, x4 (ix1 o) = ((A.gq1 o : ℝ) : EReal)
  bq1 : ∀ o, x5 (ix1 o) = ((A.bq1 o : ℝ) : EReal)
  wq2 : ∀ c o, x6 (ix2 c o) = ((A.wq2 c o : ℝ) : EReal)
  gq2 : ∀ o, x7 (ix1 o) = ((A.gq2 o : ℝ) : EReal)
  bq2 : ∀ o, x8 (ix1 o) = ((A.bq2 o : ℝ) : EReal)
  wk1 : ∀ c o, x9 (ix2 c o) = ((A.wk1 c o : ℝ) : EReal)
  gk1 : ∀ o, x10 (ix1 o) = ((A.gk1 o : ℝ) : EReal)
  bk1 : ∀ o, x11 (ix1 o) = ((A.bk1 o : ℝ) : EReal)
  wk2 : ∀ c o, x12 (ix2 c o) = ((A.wk2 c o : ℝ) : EReal)
  gk2 : ∀ o, x13 (ix1 o) = ((A.gk2 o : ℝ) : EReal)
  bk2 : ∀ o, x14 (ix1 o) = ((A.bk2 o : ℝ) : EReal)
  wv : ∀ c o, x15 (ix2 c o) = ((A.wv c o : ℝ) : EReal)
  gv : ∀ o, x16 (ix1 o) = ((A.gv o : ℝ) : EReal)
  bv : ∀ o, x17 (ix1 o) = ((A.bv o : ℝ) : EReal)
  wo : ∀ c o, x18 (ix2 c o) = ((A.wo c o : ℝ) : EReal)
  go : ∀ o, x19 (ix1 o) = ((A.go o : ℝ) : EReal)
  bo : ∀ o, x20 (ix1 o) = ((A.bo o : ℝ) : EReal)

end Cert.Model

end
-- ==== Proof.Reals.lean ====
/- How the operations of the two programs read at real numbers, over the extended reals; the literals the programs
   hold; and three folds: a maximum that meets one class only, a least index, a one-hot choice. -/
module

public import proofs.«01_k».proof.Proof.Model
public import Idealize.ShloMosaic.Lib.Pointwise
public import Idealize.ShloMosaic.Lib.IdealHost

@[expose] public section

set_option maxRecDepth 16384

noncomputable section

namespace Cert.Model

open Idealize.ShloMosaic

/-! ## Operations at real numbers -/

theorem div_real (a b : ℝ) (hb : b ≠ 0) : Ideal.div (a : EReal) (b : EReal) = ((a / b : ℝ) : EReal) := by
  rw [Ideal.div_coe hb, ← EReal.coe_mul, mul_one_div]

theorem max_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem max_real_zero (a : ℝ) : max (a : EReal) 0 = ((max a 0 : ℝ) : EReal) := by
  rw [← EReal.coe_zero, max_real]

theorem rsqrt_real (a : ℝ) (h : 0 < a) : Ideal.rsqrt (a : EReal) = (((Real.sqrt a)⁻¹ : ℝ) : EReal) := by
  rw [Ideal.rsqrt_coe, if_neg (not_lt.2 h.le), if_neg h.ne']

theorem sqrt_real (a : ℝ) (h : 0 ≤ a) : Ideal.sqrt (a : EReal) = ((Real.sqrt a : ℝ) : EReal) := by
  rw [Ideal.sqrt_coe, if_neg (not_lt.2 h)]

/-! ## The literals -/

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

theorem bits_n : Ideal.ofBits .f32 0x46800000#32 = ((16384 : ℝ) : EReal) := by
  simp [Ideal.ofBits, Ideal.ieee]
  rw [← EReal.coe_mul]
  norm_num

theorem bits_eighth : Ideal.ofBits .f32 0x3E000000#32 = ((1 / 8 : ℝ) : EReal) := by
  simp [Ideal.ofBits, Ideal.ieee]
  rw [← EReal.coe_mul]
  norm_num

theorem bits_eps : Ideal.ofBits .f32 0x3727C5AC#32 = ((eps : ℝ) : EReal) := by
  unfold eps
  simp [Ideal.ofBits, Ideal.ieee]
  rw [← EReal.coe_mul]
  norm_num

/-! ## Folds -/

/-- A maximum whose entries are `⊥` but for one is that one. -/
theorem fold_max_pick {n : ℕ} (f : Fin n → EReal) (k : Fin n) :
    Finset.univ.fold max ⊥ (fun j => if j = k then f j else ⊥) = f k := by
  apply le_antisymm
  · refine (Finset.fold_max_le _).2 ⟨bot_le, fun j _ => ?_⟩
    split
    · next h => rw [h]
    · exact bot_le
  · exact (Finset.le_fold_max _).2 (Or.inr ⟨k, Finset.mem_univ _, by rw [if_pos rfl]⟩)

/-- A choice by a bit made of a proposition. -/
theorem select_ofBool {α : Type} (p : Prop) [Decidable p] (a b : α) :
    Scalar.select (BitVec.ofBool (decide p)) a b = if p then a else b := by
  by_cases h : p <;> simp [Scalar.select, h]

/-- Such a bit widened and read as a number is one or zero. -/
theorem sitofp_ofBool (φ : FTy) (p : Prop) [Decidable p] :
    FloatOps.sitofp (F := Ideal) φ (BitVec.setWidth 32 (BitVec.ofBool (decide p))) = (((if p then 1 else 0 : ℝ)) : EReal) := by
  show (((BitVec.setWidth 32 (BitVec.ofBool (decide p))).toInt : ℝ) : EReal) = _
  by_cases h : p <;> simp [h]

end Cert.Model

end
-- ==== Proof.Blocks.lean ====
/- Reading one batch out of an array of four. -/
module

public import proofs.«01_k».proof.Proof.Gen.KernelIdeal.Frame
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelValue

open Idealize.ShloMosaic Idealize.ShloMosaic.TcCoe Cert.KernelIdeal Cert.KernelIdeal.Gen

/-- A batch loaded from an array of four. -/
theorem ld_batch (X : Vec Ideal S4x64x4096 .f32) (k : Fin 4)
    (inb : ∀ a, (![k.val, 0, 0] : Fin 3 → ℕ) a + (![1, 64, 4096] : Fin 3 → ℕ) a ≤ S4x64x4096.size a) (t : Fin 64) (i : Fin 4096) :
    View.ld X (Rect.unit (s := S4x64x4096) ![k.val, 0, 0] ![1, 64, 4096] inb) (ix3 0 t i) = X (ix3 k t i) := by
  refine View.ld_unit_apply_of X _ _ inb _ _ fun a => ?_
  fin_cases a
  · show k.val = k.val + 0; rw [Nat.add_zero]
  · show t.val = 0 + t.val; rw [Nat.zero_add]
  · show i.val = 0 + i.val; rw [Nat.zero_add]

/-- An index of a stored batch from its two last coordinates. -/
theorem piece_idx (x : S1x256x4096.Idx) {a : Fin 256} {b : Fin 4096} (ha : a.val = (x 1).val) (hb : b.val = (x 2).val) :
    x = ix3 0 a b := by
  blk_ext

/-- The same with `64` channels. -/
theorem piece_idx64 (x : S1x64x4096.Idx) {a : Fin 64} {b : Fin 4096} (ha : a.val = (x 1).val) (hb : b.val = (x 2).val) :
    x = ix3 0 a b := by
  blk_ext

end Cert.KernelValue

end
-- ==== Proof.Gather.lean ====
/- The first of the kernel's four programs at real numbers: classes, weights, class means and the three first
   convolutions of one batch, as the layer over the real numbers states them. -/
module

public import proofs.«01_k».proof.Proof.Gen.KernelIdeal.Skeleton
public import proofs.«01_k».proof.Proof.Reals

@[expose] public section

set_option maxRecDepth 16384

noncomputable section

namespace Cert.KernelValue

open Idealize.ShloMosaic Cert.KernelIdeal Cert.KernelIdeal.Gen Cert.Model

/-- The mask's literal is read as `-∞`. -/
theorem mask_bot : Named.named (F := Ideal) Cert.KernelIdeal.κ "mask" (φ := .f32) 0xF149F2CA#32 = (⊥ : EReal) :=
  IdealRules.named_const.ideal_named_scalar _ _ _ _ rfl

/-- The least of the numbers below `150` at which the logit is the greatest, and `150` elsewhere, is the class. -/
theorem fold_least (L : Fin 4 → Fin 150 → Fin 4096 → ℝ) (b : Fin 4) (i : Fin 4096) :
    Finset.univ.fold IntOp.minsi (2147483647#32)
      (fun x : Fin 150 => if ((L b x i : ℝ) : EReal) = ((top L b i : ℝ) : EReal) then BitVec.ofNat 32 x.val else 150#32)
      = BitVec.ofNat 32 (seg L b i).val := by
  have hmin : ∀ x y : BitVec 32, min x.toInt y.toInt = (IntOp.minsi x y).toInt := by
    intro x y
    unfold IntOp.minsi
    by_cases h : x.slt y
    · have := BitVec.slt_iff_toInt_lt.1 h
      simp only [h, if_true]; omega
    · have : ¬ x.toInt < y.toInt := fun h' => h (BitVec.slt_iff_toInt_lt.2 h')
      simp only [h]; simp; omega
  have hof : ∀ n : ℕ, n ≤ 150 → (BitVec.ofNat 32 n).toInt = (n : ℤ) := by
    intro n hn
    rw [BitVec.toInt_eq_toNat_of_lt] <;> simp [BitVec.toNat_ofNat] <;> omega
  have hlt := (seg L b i).isLt
  have hs : (BitVec.ofNat 32 (seg L b i).val).toInt = ((seg L b i).val : ℤ) := hof _ (by omega)
  apply BitVec.eq_of_toInt_eq
  rw [← Finset.fold_hom (op := IntOp.minsi) (op' := min) (m := BitVec.toInt) (fun x y => (hmin x y).symm), hs]
  apply le_antisymm
  · refine (Finset.fold_min_le _).2 (Or.inr ⟨seg L b i, Finset.mem_univ _, ?_⟩)
    have ht : ((L b (seg L b i) i : ℝ) : EReal) = ((top L b i : ℝ) : EReal) := rfl
    rw [if_pos ht, hs]
  · refine (Finset.le_fold_min _).2 ⟨?_, fun x _ => ?_⟩
    · rw [show (2147483647#32).toInt = 2147483647 from by decide]; omega
    · have hx := x.isLt
      split
      · next h =>
        rw [hof x.val (by omega)]
        by_contra hc
        have hlt' : x < seg L b i := by rw [Fin.lt_def]; omega
        have := (seg_spec L b i).2 x hlt'
        rw [EReal.coe_eq_coe_iff] at h
        exact absurd h this.ne
      · rw [show (150#32).toInt = 150 from by decide]; omega

section Batch

variable {L : Fin 4 → Fin 150 → Fin 4096 → ℝ} {X : Fin 4 → Fin 256 → Fin 4096 → ℝ} {b : Fin 4}

/-- The class of a pixel among the `152` the kernel keeps. -/
def cls (L : Fin 4 → Fin 150 → Fin 4096 → ℝ) (b : Fin 4) (i : Fin 4096) : Fin 152 := (seg L b i).castLE (by omega)

theorem cls_eq (i i' : Fin 4096) : cls L b i = cls L b i' ↔ seg L b i = seg L b i' := by
  unfold cls; exact (Fin.castLE_injective _).eq_iff

theorem top_at (v0 : FVec Ideal S1x150x4096 .f32) (hL : ∀ k i, v0 (ix3 0 k i) = ((L b k i : ℝ) : EReal)) (i : Fin 4096) :
    k0_pay4 (F := Ideal) v0 (ix2 0 i) = ((top L b i : ℝ) : EReal) := by
  pointwise [k0_pay4, k0_pay3]
  simp only [hL, bits_bot]
  exact fold_top L b i

theorem own_at (v0 : FVec Ideal S1x150x4096 .f32) (hL : ∀ k i, v0 (ix3 0 k i) = ((L b k i : ℝ) : EReal))
    (k : Fin 152) (i : Fin 4096) :
    k0_pay5 (F := Ideal) v0 (ix2 k i) = BitVec.ofBool (decide (k = cls L b i)) := by
  pointwise [k0_pay5, k0_pay4, k0_pay3]
  simp only [hL, bits_bot, fold_top]
  rw [fold_least]
  have h1 := k.isLt
  have h2 := (seg L b i).isLt
  unfold IntOp.cmpi
  have : (BitVec.ofNat 32 k.val = BitVec.ofNat 32 (seg L b i).val) ↔ k = cls L b i := by
    rw [← BitVec.toNat_inj, BitVec.toNat_ofNat, BitVec.toNat_ofNat, Nat.mod_eq_of_lt (by omega), Nat.mod_eq_of_lt (by omega),
      cls, Fin.ext_iff, Fin.val_castLE]
  have e : (BitVec.ofNat 32 k.val == BitVec.ofNat 32 (seg L b i).val) = decide (k = cls L b i) := by
    rw [Bool.eq_iff_iff, beq_iff_eq, decide_eq_true_iff]; exact this
  show BitVec.ofBool (BitVec.ofNat 32 k.val == BitVec.ofNat 32 (seg L b i).val) = _
  rw [e]

/-- The greatest of a class's greatest logits, where the class has a pixel, is a real number. -/
theorem exists_cmax (L : Fin 4 → Fin 150 → Fin 4096 → ℝ) (b : Fin 4) : ∃ M : Fin 150 → ℝ, ∀ i,
    Finset.univ.fold max ⊥ (fun j => if cls L b i = cls L b j then ((top L b j : ℝ) : EReal) else ⊥)
      = ((M (seg L b i) : ℝ) : EReal) := by
  refine ⟨fun k => (Finset.univ.fold max ⊥ (fun j => if k = seg L b j then ((top L b j : ℝ) : EReal) else ⊥)).toReal, fun i => ?_⟩
  simp only [cls_eq]
  obtain ⟨m, hm⟩ := fold_max_real (fun j => if seg L b i = seg L b j then ((top L b j : ℝ) : EReal) else ⊥)
    (fun j => by split <;> simp) i (by simp)
  rw [hm, EReal.toReal_coe]

theorem wgt_at (v0 : FVec Ideal S1x150x4096 .f32) (hL : ∀ k i, v0 (ix3 0 k i) = ((L b k i : ℝ) : EReal)) (i : Fin 4096) :
    k0_pay6 (F := Ideal) v0 (ix2 0 i) = ((wgt L b i : ℝ) : EReal) := by
  obtain ⟨M, hM⟩ := exists_cmax L b
  pointwise [k0_pay6]
  simp only [top_at v0 hL, own_at v0 hL, mask_bot, bits_bot, select_ofBool, sitofp_ofBool]
  have hpick : ∀ j : Fin 4096, Finset.univ.fold max ⊥ (fun x : Fin 152 => if x = cls L b j then
      Finset.univ.fold max ⊥ (fun j' => if x = cls L b j' then ((top L b j' : ℝ) : EReal) else ⊥) else ⊥)
      = ((M (seg L b j) : ℝ) : EReal) := by
    intro j
    rw [fold_max_pick (fun x : Fin 152 => Finset.univ.fold max ⊥ (fun j' => if x = cls L b j' then ((top L b j' : ℝ) : EReal) else ⊥)), hM]
  simp only [hpick, ← EReal.coe_sub, Ideal.exp_coe, ← EReal.coe_mul, ← coe_sum]
  rw [sum_pick, cls_eq_sum, div_real _ _ (shift_pos L b i M).ne', wgt_shift]
where
  cls_eq_sum : ∀ {M : Fin 150 → ℝ}, (∑ x, (if cls L b i = cls L b x then (1 : ℝ) else 0) * Real.exp (top L b x - M (seg L b x)))
      = ∑ j, if seg L b j = seg L b i then Real.exp (top L b j - M (seg L b j)) else 0 := by
    intro M
    refine Finset.sum_congr rfl fun j _ => ?_
    rw [ite_mul, one_mul, zero_mul]
    simp only [cls_eq, eq_comm]

theorem feat_at (v41 : FVec Ideal S1x256x4096 .f32) (c : Fin 256) (i : Fin 4096) :
    k0_pay7 (F := Ideal) v41 (ix2 c i) = v41 (ix3 0 c i) := by
  pointwise [k0_pay7]

/-- A class's mean among the `152` classes, zero at those that no pixel has. -/
def ctxP (L : Fin 4 → Fin 150 → Fin 4096 → ℝ) (X : Fin 4 → Fin 256 → Fin 4096 → ℝ) (b : Fin 4) (c : Fin 256) (k : Fin 152) : ℝ :=
  ∑ i, X b c i * wgt L b i * (if k = cls L b i then 1 else 0)

theorem ctxP_cls (c : Fin 256) (i : Fin 4096) : ctxP L X b c (cls L b i) = feat L X b c i := by
  unfold ctxP feat ctx
  refine Finset.sum_congr rfl fun j _ => ?_
  rw [mul_ite, mul_one, mul_zero]
  simp only [cls_eq, eq_comm]

theorem ctx_at (v13 : IVec S152x4096 1) (v40 : FVec Ideal S1x4096 .f32) (v42 : FVec Ideal S256x4096 .f32)
    (h13 : ∀ k i, v13 (ix2 k i) = BitVec.ofBool (decide (k = cls L b i)))
    (h40 : ∀ i, v40 (ix2 0 i) = ((wgt L b i : ℝ) : EReal)) (h42 : ∀ c i, v42 (ix2 c i) = ((X b c i : ℝ) : EReal))
    (c : Fin 256) (k : Fin 152) :
    k0_pay9 (F := Ideal) v13 v40 v42 (ix2 c k) = ((ctxP L X b c k : ℝ) : EReal) := by
  pointwise [k0_pay9, k0_pay8]
  simp only [h13, h40, h42, sitofp_ofBool, ← EReal.coe_mul, ← EReal.coe_sub, ← EReal.coe_add, ← coe_sum, sub_self, zero_mul,
    Finset.sum_const_zero, add_zero]
  rfl

theorem q_at (v42 : FVec Ideal S256x4096 .f32) (v60 : FVec Ideal S256x64 .f32) {w : Fin 256 → Fin 64 → ℝ}
    (h42 : ∀ c i, v42 (ix2 c i) = ((X b c i : ℝ) : EReal)) (hw : ∀ c o, v60 (ix2 c o) = ((w c o : ℝ) : EReal))
    (o : Fin 64) (i : Fin 4096) :
    k0_pay10 (F := Ideal) v42 v60 (ix3 0 o i) = ((conv w X b o i : ℝ) : EReal) := by
  pointwise [k0_pay10]
  simp only [h42, hw, ← EReal.coe_mul, ← coe_sum]
  rfl

/-- The convolution of the class means, class by class. -/
def convP (w : Fin 256 → Fin 64 → ℝ) (L : Fin 4 → Fin 150 → Fin 4096 → ℝ) (X : Fin 4 → Fin 256 → Fin 4096 → ℝ)
    (b : Fin 4) (o : Fin 64) (k : Fin 152) : ℝ := ∑ c, w c o * ctxP L X b c k

theorem convP_cls (w : Fin 256 → Fin 64 → ℝ) (o : Fin 64) (i : Fin 4096) :
    (∑ k, convP w L X b o k * (if k = cls L b i then 1 else 0)) = conv w (feat L X) b o i := by
  simp only [mul_ite, mul_one, mul_zero]
  rw [sum_pick]
  unfold convP conv
  simp only [ctxP_cls]

theorem v_at (v13 : IVec S152x4096 1) (v40 : FVec Ideal S1x4096 .f32) (v42 : FVec Ideal S256x4096 .f32)
    (v67 : FVec Ideal S256x64 .f32) {w : Fin 256 → Fin 64 → ℝ}
    (h13 : ∀ k i, v13 (ix2 k i) = BitVec.ofBool (decide (k = cls L b i)))
    (h40 : ∀ i, v40 (ix2 0 i) = ((wgt L b i : ℝ) : EReal)) (h42 : ∀ c i, v42 (ix2 c i) = ((X b c i : ℝ) : EReal))
    (hw : ∀ c o, v67 (ix2 c o) = ((w c o : ℝ) : EReal)) (o : Fin 64) (i : Fin 4096) :
    k0_pay2 (F := Ideal) (k0_pay8 v13) (k0_pay11 v13 v40 v42 v67) (ix3 0 o i) = ((conv w (feat L X) b o i : ℝ) : EReal) := by
  have h11 : ∀ o k, k0_pay11 (F := Ideal) v13 v40 v42 v67 (ix2 o k) = ((convP w L X b o k : ℝ) : EReal) := by
    intro o k
    pointwise [k0_pay11]
    simp only [hw, ctx_at v13 v40 v42 h13 h40 h42, ← EReal.coe_mul, ← coe_sum]
    rfl
  pointwise [k0_pay2, k0_pay8]
  simp only [h13, h11, sitofp_ofBool, ← EReal.coe_mul, ← EReal.coe_sub, ← EReal.coe_add, ← coe_sum, sub_self, zero_mul,
    Finset.sum_const_zero, add_zero]
  rw [convP_cls]

theorem k_at (v13 : IVec S152x4096 1) (v40 : FVec Ideal S1x4096 .f32) (v42 : FVec Ideal S256x4096 .f32)
    (v65 : FVec Ideal S256x64 .f32) {w : Fin 256 → Fin 64 → ℝ}
    (h13 : ∀ k i, v13 (ix2 k i) = BitVec.ofBool (decide (k = cls L b i)))
    (h40 : ∀ i, v40 (ix2 0 i) = ((wgt L b i : ℝ) : EReal)) (h42 : ∀ c i, v42 (ix2 c i) = ((X b c i : ℝ) : EReal))
    (hw : ∀ c o, v65 (ix2 c o) = ((w c o : ℝ) : EReal)) (o : Fin 64) (i : Fin 4096) :
    k0_pay1 (F := Ideal) (k0_pay12 v13 v40 v42 v65) (ix3 0 o i) = ((conv w (feat L X) b o i : ℝ) : EReal) := by
  pointwise [k0_pay1, k0_pay12, k0_pay8]
  simp only [h13, hw, ctx_at v13 v40 v42 h13 h40 h42, sitofp_ofBool, ← EReal.coe_mul, ← EReal.coe_sub, ← EReal.coe_add, ← coe_sum,
    sub_self, zero_mul, Finset.sum_const_zero, add_zero]
  rw [← convP_cls]
  rfl

end Batch

end Cert.KernelValue

end
-- ==== Proof.First.lean ====
/- What the first program leaves in its three arrays. -/
module

public import proofs.«01_k».proof.Proof.Blocks
public import proofs.«01_k».proof.Proof.Gather

@[expose] public section

set_option maxRecDepth 16384

noncomputable section

namespace Cert.KernelValue

open Idealize.ShloMosaic Idealize.ShloMosaic.TcCoe Idealize.SL.Sem Cert.KernelIdeal Cert.KernelIdeal.Gen Cert.Model

variable (V : (c : Dev nD) → (b : Ref sig .tc) → Buf (Elt Ideal) ((c : Thread nD τ).loc b)) (c : Dev nD)

/-- Where the blocks of the first program lie. -/
theorem index0 : ∀ t : Fin cfg0.N, win0_0.index t = ![t.val, 0, 0] ∧ win0_1.index t = ![t.val, 0, 0]
    ∧ win0_2.index t = ![0, 0] ∧ win0_3.index t = ![0, 0] ∧ win0_4.index t = ![0, 0]
    ∧ win0_5.index t = ![t.val, 0, 0] ∧ win0_6.index t = ![t.val, 0, 0] ∧ win0_7.index t = ![t.val, 0, 0] := by
  decide +kernel

/-- The batch of a grid point. -/
def bat0 (t : Fin cfg0.N) : Fin 4 := ⟨t.val, t.isLt⟩

theorem blk0_0 (t : Fin cfg0.N) (a : Fin 256) (r : Fin 4096) :
    iblk0 V c 0 t (ix3 0 a r) = V c (Pipeline.arrRef spec0 0) (ix3 (bat0 t) a r) := by
  have h := (index0 t).1
  blk_ext [iblk0, h, bat0]

theorem blk0_1 (t : Fin cfg0.N) (a : Fin 150) (r : Fin 4096) :
    iblk0 V c 1 t (ix3 0 a r) = V c (Pipeline.arrRef spec0 1) (ix3 (bat0 t) a r) := by
  have h := (index0 t).2.1
  blk_ext [iblk0, h, bat0]

theorem blk0_2 (t : Fin cfg0.N) (a : Fin 256) (o : Fin 64) :
    iblk0 V c 2 t (ix2 a o) = V c (Pipeline.arrRef spec0 2) (ix2 a o) := by
  have h := (index0 t).2.2.1
  blk_ext [iblk0, h]

theorem blk0_3 (t : Fin cfg0.N) (a : Fin 256) (o : Fin 64) :
    iblk0 V c 3 t (ix2 a o) = V c (Pipeline.arrRef spec0 3) (ix2 a o) := by
  have h := (index0 t).2.2.2.1
  blk_ext [iblk0, h]

theorem blk0_4 (t : Fin cfg0.N) (a : Fin 256) (o : Fin 64) :
    iblk0 V c 4 t (ix2 a o) = V c (Pipeline.arrRef spec0 4) (ix2 a o) := by
  have h := (index0 t).2.2.2.2.1
  blk_ext [iblk0, h]

theorem emb0_5 (t : Fin cfg0.N) (y : S1x64x4096.Idx) :
    ((cfg0.win 5).blk t).view.emb y = ix3 (bat0 t) (y 1) (y 2) := by
  have h := (index0 t).2.2.2.2.2.1
  blk_ext [h, bat0]

theorem emb0_6 (t : Fin cfg0.N) (y : S1x64x4096.Idx) :
    ((cfg0.win 6).blk t).view.emb y = ix3 (bat0 t) (y 1) (y 2) := by
  have h := (index0 t).2.2.2.2.2.2.1
  blk_ext [h, bat0]

theorem emb0_7 (t : Fin cfg0.N) (y : S1x64x4096.Idx) :
    ((cfg0.win 7).blk t).view.emb y = ix3 (bat0 t) (y 1) (y 2) := by
  have h := (index0 t).2.2.2.2.2.2.2
  blk_ext [h, bat0]

theorem idx0_5 (y : S1x64x4096.Idx) : y = ix3 0 (y 1) (y 2) := by
  blk_ext

theorem pay13_eq (x0 : Vec Ideal S1x256x4096 .f32) (x1 : Vec Ideal S1x150x4096 .f32) (x2 x3 x4 : Vec Ideal S256x64 .f32) :
    k0_pay13 x0 x1 x2 x3 x4 = k0_pay5 x1 := by
  unfold k0_pay13
  frame_out

theorem pay14_eq (x0 : Vec Ideal S1x256x4096 .f32) (x1 : Vec Ideal S1x150x4096 .f32) (x2 x3 x4 : Vec Ideal S256x64 .f32) :
    k0_pay14 x0 x1 x2 x3 x4 = k0_pay6 x1 := by
  unfold k0_pay14
  frame_out

theorem pay15_eq (x0 : Vec Ideal S1x256x4096 .f32) (x1 : Vec Ideal S1x150x4096 .f32) (x2 x3 x4 : Vec Ideal S256x64 .f32) :
    k0_pay15 x0 x1 x2 x3 x4 = k0_pay7 x0 := by
  unfold k0_pay15
  frame_out

variable {L : Fin 4 → Fin 150 → Fin 4096 → ℝ} {X : Fin 4 → Fin 256 → Fin 4096 → ℝ} {w : Fin 256 → Fin 64 → ℝ}
  (hX : ∀ b a i, V c (Pipeline.arrRef spec0 0) (ix3 b a i) = ((X b a i : ℝ) : EReal))

include hX

/-- The first convolution of the queries. -/
theorem yq_arr (hw : ∀ a o, V c (Pipeline.arrRef spec0 2) (ix2 a o) = ((w a o : ℝ) : EReal)) :
    (dat0 V c).arrAt 5 cfg0.N = fun j => ((conv w X (j 0) (j 1) (j 2) : ℝ) : EReal) := by
  refine (dat0 V c).arrAt_eq_of_covers 5 _ (by decide +kernel) fun t hf y => ?_
  refine Eq.trans (b := ((conv w X (bat0 t) (y 1) (y 2) : ℝ) : EReal)) ?_ (by rw [emb0_5 t y]; rfl)
  blk_simp
  rw [after0_5]
  frame_out
  rw [pay15_eq]
  obtain ⟨a, r, rfl⟩ : ∃ a r, y = ix3 0 a r := ⟨y 1, y 2, idx0_5 y⟩
  exact q_at _ _ (fun a i => (feat_at _ a i).trans ((blk0_0 V c t a i).trans (hX _ _ _))) (fun a o => (blk0_2 V c t a o).trans (hw _ _)) a r

variable (hL : ∀ b k i, V c (Pipeline.arrRef spec0 1) (ix3 b k i) = ((L b k i : ℝ) : EReal))

include hL

/-- The first convolution of the keys. -/
theorem yk_arr (hw : ∀ a o, V c (Pipeline.arrRef spec0 3) (ix2 a o) = ((w a o : ℝ) : EReal)) :
    (dat0 V c).arrAt 6 cfg0.N = fun j => ((conv w (feat L X) (j 0) (j 1) (j 2) : ℝ) : EReal) := by
  refine (dat0 V c).arrAt_eq_of_covers 6 _ (by decide +kernel) fun t hf y => ?_
  refine Eq.trans (b := ((conv w (feat L X) (bat0 t) (y 1) (y 2) : ℝ) : EReal)) ?_ (by rw [emb0_6 t y]; rfl)
  blk_simp
  rw [after0_6]
  frame_out
  rw [pay13_eq, pay14_eq, pay15_eq]
  obtain ⟨a, r, rfl⟩ : ∃ a r, y = ix3 0 a r := ⟨y 1, y 2, idx0_5 y⟩
  have l : ∀ k i, iblk0 V c 1 t (ix3 0 k i) = ((L (bat0 t) k i : ℝ) : EReal) := fun k i => (blk0_1 V c t k i).trans (hL _ _ _)
  exact k_at _ _ _ _ (own_at _ l) (wgt_at _ l) (fun a i => (feat_at _ a i).trans ((blk0_0 V c t a i).trans (hX _ _ _)))
    (fun a o => (blk0_3 V c t a o).trans (hw _ _)) a r

/-- The convolution of the values. -/
theorem yv_arr (hw : ∀ a o, V c (Pipeline.arrRef spec0 4) (ix2 a o) = ((w a o : ℝ) : EReal)) :
    (dat0 V c).arrAt 7 cfg0.N = fun j => ((conv w (feat L X) (j 0) (j 1) (j 2) : ℝ) : EReal) := by
  refine (dat0 V c).arrAt_eq_of_covers 7 _ (by decide +kernel) fun t hf y => ?_
  refine Eq.trans (b := ((conv w (feat L X) (bat0 t) (y 1) (y 2) : ℝ) : EReal)) ?_ (by rw [emb0_7 t y]; rfl)
  blk_simp
  rw [after0_7]
  frame_out
  rw [pay13_eq, pay14_eq, pay15_eq]
  obtain ⟨a, r, rfl⟩ : ∃ a r, y = ix3 0 a r := ⟨y 1, y 2, idx0_5 y⟩
  have l : ∀ k i, iblk0 V c 1 t (ix3 0 k i) = ((L (bat0 t) k i : ℝ) : EReal) := fun k i => (blk0_1 V c t k i).trans (hL _ _ _)
  exact v_at _ _ _ _ (own_at _ l) (wgt_at _ l) (fun a i => (feat_at _ a i).trans ((blk0_0 V c t a i).trans (hX _ _ _)))
    (fun a o => (blk0_4 V c t a o).trans (hw _ _)) a r

end Cert.KernelValue

end
-- ==== Proof.Norm.lean ====
/- The second of the kernel's four programs at real numbers: the normalisations of the three first convolutions, and
   the second convolutions with theirs. -/
module

public import proofs.«01_k».proof.Proof.Blocks
public import proofs.«01_k».proof.Proof.Model

@[expose] public section

set_option maxRecDepth 16384

noncomputable section

namespace Cert.KernelValue

open Idealize.ShloMosaic Idealize.ShloMosaic.TcCoe Idealize.SL.Sem Cert.KernelIdeal Cert.KernelIdeal.Gen Cert.Model

/-! ## One form for the three normalisations -/

/-- A row's sum as a column. -/
def rowSum (p : FVec Ideal S64x4096 .f32) : FVec Ideal S64x1 .f32 :=
  shapeCast S64x1 (multiReduction .add [1] S64 p 0x00000000#32 reduces_S64x4096_S64 (.inl rfl) rfl) shapeCasts_S64_S64x1

/-- The column of zeros the sums start from. -/
def zcol : FVec Ideal S64x1 .f32 := broadcast S64x1 (Scalar.ofBits .f32 0x00000000#32)

/-- The channels' means over four batches. -/
def mean4c (p0 p1 p2 p3 : FVec Ideal S64x4096 .f32) : FVec Ideal S64x1 .f32 :=
  divf (addf (addf (addf (addf zcol (rowSum p0)) (rowSum p1)) (rowSum p2)) (rowSum p3)) (broadcast S64x1 (Scalar.ofBits .f32 0x46800000#32))

/-- The channels' slopes. -/
def slope4 (p0 p1 p2 p3 : FVec Ideal S64x4096 .f32) (g : Vec Ideal S64x1 .f32) : FVec Ideal S64x1 .f32 :=
  mulf (rsqrt (addf (subf (divf (addf (addf (addf (addf zcol (rowSum (mulf p0 p0))) (rowSum (mulf p1 p1))) (rowSum (mulf p2 p2))) (rowSum (mulf p3 p3)))
      (broadcast S64x1 (Scalar.ofBits .f32 0x46800000#32))) (mulf (mean4c p0 p1 p2 p3) (mean4c p0 p1 p2 p3)))
    (broadcast S64x1 (Scalar.ofBits .f32 0x3727C5AC#32)))) (shapeCast S64x1 g shapeCasts_S64x1_S64x1)

/-- The channels' offsets. -/
def offset4 (p0 p1 p2 p3 : FVec Ideal S64x4096 .f32) (g β : Vec Ideal S64x1 .f32) : FVec Ideal S64x1 .f32 :=
  subf (shapeCast S64x1 β shapeCasts_S64x1_S64x1) (mulf (mean4c p0 p1 p2 p3) (slope4 p0 p1 p2 p3 g))

section Forms

variable (u0 u1 u2 u3 u x : Vec Ideal S1x64x4096 .f32) (w : Vec Ideal S64x64 .f32) (g β : Vec Ideal S64x1 .f32) (s q : FVec Ideal S64x1 .f32)

theorem f9 : k1_pay9 (F := Ideal) (k1_pay6 u0 u1 u2 u3) (k1_pay7 u0 u1 u2 u3) g = slope4 (k1_pay2 u0) (k1_pay2 u1) (k1_pay2 u2) (k1_pay2 u3) g := rfl
theorem f10 : k1_pay10 (F := Ideal) (k1_pay6 u0 u1 u2 u3) (k1_pay7 u0 u1 u2 u3) g β = offset4 (k1_pay2 u0) (k1_pay2 u1) (k1_pay2 u2) (k1_pay2 u3) g β := rfl
theorem f11 : k1_pay11 (F := Ideal) s q g β x = k1_pay13 (k1_pay9 s q g) (k1_pay10 s q g β) x := rfl
theorem f12 : k1_pay12 (F := Ideal) s q g β x = k1_pay13 (k1_pay9 s q g) (k1_pay10 s q g β) x := rfl
theorem f14 : k1_pay14 (F := Ideal) s q x = k1_pay13 s q x := rfl
theorem f20 : k1_pay20 (F := Ideal) w x = k1_pay18 w x := rfl
theorem f22 : k1_pay22 (F := Ideal) w x = k1_pay18 w x := rfl
theorem f27 : k1_pay27 (F := Ideal) w (k1_pay25 x) = k1_pay18 w x := rfl
theorem f29 : k1_pay29 (F := Ideal) w (k1_pay23 w k1_pay15 (k1_pay17 w u0) u1 u2) (k1_pay24 w k1_pay16 (k1_pay17 w u0) u1 u2) (k1_pay25 u3) g = slope4 (k1_pay17 w u0) (k1_pay17 w u1) (k1_pay17 w u2) (k1_pay17 w u3) g := rfl
theorem f30 : k1_pay30 (F := Ideal) w (k1_pay23 w k1_pay15 (k1_pay17 w u0) u1 u2) (k1_pay24 w k1_pay16 (k1_pay17 w u0) u1 u2) (k1_pay25 u3) g β = offset4 (k1_pay17 w u0) (k1_pay17 w u1) (k1_pay17 w u2) (k1_pay17 w u3) g β := rfl
theorem f31 : k1_pay32 (k1_pay31 (F := Ideal) w s q (k1_pay25 u) g β x) = k1_pay33 (k1_pay29 w s q (k1_pay25 u) g) (k1_pay30 w s q (k1_pay25 u) g β) x := rfl
theorem f34 : k1_pay34 (F := Ideal) s q x = k1_pay33 s q x := rfl
theorem f36 : k1_pay36 (F := Ideal) (k1_pay35 s q x) (Scalar.ofBits .f32 0x00000000#32) = k1_pay33 s q x := rfl
theorem f44 : k1_pay44 (F := Ideal) (k1_pay40 u0 u1 u2) (k1_pay41 u0 u1 u2) u3 g = slope4 (k1_pay2 u0) (k1_pay2 u1) (k1_pay2 u2) (k1_pay2 u3) g := rfl
theorem f45 : k1_pay45 (F := Ideal) (k1_pay40 u0 u1 u2) (k1_pay41 u0 u1 u2) u3 g β = offset4 (k1_pay2 u0) (k1_pay2 u1) (k1_pay2 u2) (k1_pay2 u3) g β := rfl
theorem f46 : k1_pay46 (F := Ideal) s q u g β x = k1_pay13 (k1_pay44 s q u g) (k1_pay45 s q u g β) x := rfl
theorem f48 : k1_pay48 (F := Ideal) s q (k1_pay47 x) = k1_pay13 s q x := rfl
theorem f49 : k1_pay49 (F := Ideal) s q x = k1_pay13 s q x := rfl
theorem f50 : k1_pay50 (F := Ideal) s q x = k1_pay13 s q x := rfl
theorem f54 : k1_pay54 (F := Ideal) w x = k1_pay18 w x := rfl
theorem f56 : k1_pay56 (F := Ideal) w x = k1_pay18 w x := rfl
theorem f60 : k1_pay60 (F := Ideal) w x = k1_pay18 w x := rfl
theorem f62 : k1_pay62 (F := Ideal) w x = k1_pay18 w x := rfl
theorem f64 : k1_pay64 (F := Ideal) w (k1_pay57 w k1_pay51 u0 u1) (k1_pay58 w k1_pay52 u0 u1) (k1_pay59 w u2) u3 g = slope4 (k1_pay17 w u0) (k1_pay17 w u1) (k1_pay17 w u2) (k1_pay17 w u3) g := rfl
theorem f65 : k1_pay65 (F := Ideal) w (k1_pay57 w k1_pay51 u0 u1) (k1_pay58 w k1_pay52 u0 u1) (k1_pay59 w u2) u3 g β = offset4 (k1_pay17 w u0) (k1_pay17 w u1) (k1_pay17 w u2) (k1_pay17 w u3) g β := rfl
theorem f68 : k1_pay68 (F := Ideal) q (k1_pay66 x) (k1_pay67 w (k1_pay57 w k1_pay51 u0 u1) (k1_pay58 w k1_pay52 u0 u1) (k1_pay59 w u2) u3 g) = k1_pay1 (slope4 (k1_pay17 w u0) (k1_pay17 w u1) (k1_pay17 w u2) (k1_pay17 w u3) g) q x := rfl
theorem f69 : k1_pay69 (F := Ideal) s q x = k1_pay1 s q x := rfl
theorem f71 : k1_pay71 (F := Ideal) (k1_pay70 s q x) = k1_pay1 s q x := rfl
theorem f72 : k1_pay72 (F := Ideal) s q x = k1_pay1 s q x := rfl
theorem f80 : k1_pay80 (F := Ideal) (k1_pay75 u0 u1) (k1_pay76 u0 u1) u2 u3 g = slope4 (k1_pay2 u0) (k1_pay2 u1) (k1_pay2 u2) (k1_pay2 u3) g := rfl
theorem f81 : k1_pay81 (F := Ideal) (k1_pay75 u0 u1) (k1_pay76 u0 u1) u2 u3 g β = offset4 (k1_pay2 u0) (k1_pay2 u1) (k1_pay2 u2) (k1_pay2 u3) g β := rfl
theorem f84 : k1_pay84 (F := Ideal) (k1_pay82 (k1_pay75 u0 u1) (k1_pay76 u0 u1) u2 u3 g β x) k1_pay83 = k1_pay1 (slope4 (k1_pay2 u0) (k1_pay2 u1) (k1_pay2 u2) (k1_pay2 u3) g) (offset4 (k1_pay2 u0) (k1_pay2 u1) (k1_pay2 u2) (k1_pay2 u3) g β) x := rfl
theorem f85 : k1_pay85 (F := Ideal) s q x = k1_pay1 s q x := rfl
theorem f86 : k1_pay86 (F := Ideal) s q x = k1_pay1 s q x := rfl

end Forms

/-! ## Their values -/

section Values

variable {n : ℕ} {g β : Fin 64 → ℝ} {y : Fin 4 → Fin 64 → Fin 4096 → ℝ} {vg vb : Vec Ideal S64x1 .f32}

section Stats

variable {p0 p1 p2 p3 : FVec Ideal S64x4096 .f32} (h0 : ∀ o i, p0 (ix2 o i) = ((y 0 o i : ℝ) : EReal))
  (h1 : ∀ o i, p1 (ix2 o i) = ((y 1 o i : ℝ) : EReal)) (h2 : ∀ o i, p2 (ix2 o i) = ((y 2 o i : ℝ) : EReal))
  (h3 : ∀ o i, p3 (ix2 o i) = ((y 3 o i : ℝ) : EReal)) (hg : ∀ o, vg (ix2 o 0) = ((g o : ℝ) : EReal))

include h0 h1 h2 h3

theorem mean4c_at (o : Fin 64) : mean4c p0 p1 p2 p3 (ix2 o 0) = ((mean (fun b i => y b o i) : ℝ) : EReal) := by
  pointwise [mean4c, rowSum, zcol]
  simp only [h0, h1, h2, h3, ← coe_sum, ← EReal.coe_add, bits_n]
  rw [div_real _ _ (by norm_num), mean4 (fun b i => y b o i)]

include hg

theorem slope4_at (o : Fin 64) :
    slope4 p0 p1 p2 p3 vg (ix2 o 0) = (((√(var (fun b i => y b o i) + eps))⁻¹ * g o : ℝ) : EReal) := by
  pointwise [slope4, rowSum, zcol]
  simp only [mean4c_at h0 h1 h2 h3, h0, h1, h2, h3, ← coe_sum, ← EReal.coe_add, ← EReal.coe_mul, bits_n, bits_eps,
    div_real _ (16384 : ℝ) (by norm_num), ← EReal.coe_sub, var4 (fun b i => y b o i), hg]
  rw [rsqrt_real _ (add_pos_of_nonneg_of_pos (var_nonneg _) eps_pos), ← EReal.coe_mul]

theorem offset4_at (hβ : ∀ o, vb (ix2 o 0) = ((β o : ℝ) : EReal)) (o : Fin 64) : offset4 p0 p1 p2 p3 vg vb (ix2 o 0)
    = ((β o - mean (fun b i => y b o i) * ((√(var (fun b i => y b o i) + eps))⁻¹ * g o) : ℝ) : EReal) := by
  pointwise [offset4]
  simp only [mean4c_at h0 h1 h2 h3, slope4_at h0 h1 h2 h3 hg, hβ, ← EReal.coe_mul, ← EReal.coe_sub]

end Stats

section Layers

variable {u : Vec Ideal S1x64x4096 .f32} {b : Fin 4} (hu : ∀ o i, u (ix3 0 o i) = ((y b o i : ℝ) : EReal)) {s q : FVec Ideal S64x1 .f32}
  (hs : ∀ o, s (ix2 o 0) = (((√(var (fun b i => y b o i) + eps))⁻¹ * g o : ℝ) : EReal))
  (hq : ∀ o, q (ix2 o 0) = ((β o - mean (fun b i => y b o i) * ((√(var (fun b i => y b o i) + eps))⁻¹ * g o) : ℝ) : EReal))

include hu

theorem raw_at (o : Fin 64) (i : Fin 4096) : k1_pay2 (F := Ideal) u (ix2 o i) = ((y b o i : ℝ) : EReal) := by
  pointwise [k1_pay2]
  exact hu o i

theorem mm_at {w : Fin 64 → Fin 64 → ℝ} {vw : Vec Ideal S64x64 .f32} (hw : ∀ t o, vw (ix2 t o) = ((w t o : ℝ) : EReal))
    (o : Fin 64) (i : Fin 4096) : k1_pay17 (F := Ideal) vw u (ix2 o i) = ((conv w y b o i : ℝ) : EReal) := by
  pointwise [k1_pay17]
  simp only [hw, hu, ← EReal.coe_mul, ← coe_sum]
  rfl

theorem mm3_at {w : Fin 64 → Fin 64 → ℝ} {vw : Vec Ideal S64x64 .f32} (hw : ∀ t o, vw (ix2 t o) = ((w t o : ℝ) : EReal))
    (o : Fin 64) (i : Fin 4096) : k1_pay18 (F := Ideal) vw u (ix3 0 o i) = ((conv w y b o i : ℝ) : EReal) := by
  pointwise [k1_pay18]
  exact mm_at hu hw o i

include hs hq

theorem act_at (o : Fin 64) (i : Fin 4096) : k1_pay13 (F := Ideal) s q u (ix3 0 o i) = ((act g β y b o i : ℝ) : EReal) := by
  pointwise [k1_pay13]
  simp only [hu, hs, hq, ← EReal.coe_mul, ← EReal.coe_add, max_real_zero]
  rw [bn_eq (g o) (β o) (fun b i => y b o i) b i]
  rfl

theorem act8_at (o : Fin 64) (i : Fin 4096) : k1_pay33 (F := Ideal) s q u (ix3 0 o i) = ((act g β y b o i * (1 / 8) : ℝ) : EReal) := by
  pointwise [k1_pay33]
  simp only [hu, hs, hq, ← EReal.coe_mul, ← EReal.coe_add, max_real_zero, bits_eighth]
  rw [bn_eq (g o) (β o) (fun b i => y b o i) b i]
  rfl

theorem act1_at (o : Fin 64) (i : Fin 4096) : k1_pay1 (F := Ideal) s q u (ix3 0 o i) = ((act g β y b o i : ℝ) : EReal) := by
  pointwise [k1_pay1]
  simp only [hu, hs, hq, ← EReal.coe_mul, ← EReal.coe_add, max_real_zero]
  rw [bn_eq (g o) (β o) (fun b i => y b o i) b i]
  rfl

end Layers

end Values

end Cert.KernelValue

end
-- ==== Proof.Proj.lean ====
/- What the second program leaves in its three arrays. -/
module

public import proofs.«01_k».proof.Proof.Norm

@[expose] public section

set_option maxRecDepth 16384

noncomputable section

namespace Cert.KernelValue

open Idealize.ShloMosaic Idealize.ShloMosaic.TcCoe Idealize.SL.Sem Cert.KernelIdeal Cert.KernelIdeal.Gen Cert.Model

variable (V : (c : Dev nD) → (b : Ref sig .tc) → Buf (Elt Ideal) ((c : Thread nD τ).loc b)) (c : Dev nD)

/-! ## The blocks are the whole arrays -/

theorem blk1_0 (b : Fin 4) (t : Fin 64) (i : Fin 4096) :
    iblk1 V c 0 t1_0 (ix3 b t i) = V c (Pipeline.arrRef spec1 0) (ix3 b t i) := by
  have h : win1_0.index t1_0 = ![0, 0, 0] := by decide +kernel
  blk_ext [iblk1, h]

theorem blk1_1 (b : Fin 4) (t : Fin 64) (i : Fin 4096) :
    iblk1 V c 1 t1_0 (ix3 b t i) = V c (Pipeline.arrRef spec1 1) (ix3 b t i) := by
  have h : win1_1.index t1_0 = ![0, 0, 0] := by decide +kernel
  blk_ext [iblk1, h]

theorem blk1_2 (b : Fin 4) (t : Fin 64) (i : Fin 4096) :
    iblk1 V c 2 t1_0 (ix3 b t i) = V c (Pipeline.arrRef spec1 2) (ix3 b t i) := by
  have h : win1_2.index t1_0 = ![0, 0, 0] := by decide +kernel
  blk_ext [iblk1, h]

theorem blk1_3 (t o : Fin 64) : iblk1 V c 3 t1_0 (ix2 t o) = V c (Pipeline.arrRef spec1 3) (ix2 t o) := by
  have h : win1_3.index t1_0 = ![0, 0] := by decide +kernel
  blk_ext [iblk1, h]

theorem blk1_4 (o : Fin 64) : iblk1 V c 4 t1_0 (ix2 o 0) = V c (Pipeline.arrRef spec1 4) (ix2 o 0) := by
  have h : win1_4.index t1_0 = ![0, 0] := by decide +kernel
  blk_ext [iblk1, h]

theorem blk1_5 (o : Fin 64) : iblk1 V c 5 t1_0 (ix2 o 0) = V c (Pipeline.arrRef spec1 5) (ix2 o 0) := by
  have h : win1_5.index t1_0 = ![0, 0] := by decide +kernel
  blk_ext [iblk1, h]

theorem blk1_6 (o : Fin 64) : iblk1 V c 6 t1_0 (ix2 o 0) = V c (Pipeline.arrRef spec1 6) (ix2 o 0) := by
  have h : win1_6.index t1_0 = ![0, 0] := by decide +kernel
  blk_ext [iblk1, h]

theorem blk1_7 (o : Fin 64) : iblk1 V c 7 t1_0 (ix2 o 0) = V c (Pipeline.arrRef spec1 7) (ix2 o 0) := by
  have h : win1_7.index t1_0 = ![0, 0] := by decide +kernel
  blk_ext [iblk1, h]

theorem blk1_8 (t o : Fin 64) : iblk1 V c 8 t1_0 (ix2 t o) = V c (Pipeline.arrRef spec1 8) (ix2 t o) := by
  have h : win1_8.index t1_0 = ![0, 0] := by decide +kernel
  blk_ext [iblk1, h]

theorem blk1_9 (o : Fin 64) : iblk1 V c 9 t1_0 (ix2 o 0) = V c (Pipeline.arrRef spec1 9) (ix2 o 0) := by
  have h : win1_9.index t1_0 = ![0, 0] := by decide +kernel
  blk_ext [iblk1, h]

theorem blk1_10 (o : Fin 64) : iblk1 V c 10 t1_0 (ix2 o 0) = V c (Pipeline.arrRef spec1 10) (ix2 o 0) := by
  have h : win1_10.index t1_0 = ![0, 0] := by decide +kernel
  blk_ext [iblk1, h]

theorem blk1_11 (o : Fin 64) : iblk1 V c 11 t1_0 (ix2 o 0) = V c (Pipeline.arrRef spec1 11) (ix2 o 0) := by
  have h : win1_11.index t1_0 = ![0, 0] := by decide +kernel
  blk_ext [iblk1, h]

theorem blk1_12 (o : Fin 64) : iblk1 V c 12 t1_0 (ix2 o 0) = V c (Pipeline.arrRef spec1 12) (ix2 o 0) := by
  have h : win1_12.index t1_0 = ![0, 0] := by decide +kernel
  blk_ext [iblk1, h]

theorem blk1_13 (o : Fin 64) : iblk1 V c 13 t1_0 (ix2 o 0) = V c (Pipeline.arrRef spec1 13) (ix2 o 0) := by
  have h : win1_13.index t1_0 = ![0, 0] := by decide +kernel
  blk_ext [iblk1, h]

theorem blk1_14 (o : Fin 64) : iblk1 V c 14 t1_0 (ix2 o 0) = V c (Pipeline.arrRef spec1 14) (ix2 o 0) := by
  have h : win1_14.index t1_0 = ![0, 0] := by decide +kernel
  blk_ext [iblk1, h]

/-! ## The three arrays -/

variable {w : Fin 64 → Fin 64 → ℝ} {g β g' β' : Fin 64 → ℝ} {y : Fin 4 → Fin 64 → Fin 4096 → ℝ}

set_option maxHeartbeats 1000000 in
/-- The queries, divided by eight. -/
theorem query_arr
    (hy : ∀ b t i, V c (Pipeline.arrRef spec1 0) (ix3 b t i) = ((y b t i : ℝ) : EReal))
    (hg : ∀ o, V c (Pipeline.arrRef spec1 4) (ix2 o 0) = ((g o : ℝ) : EReal))
    (hβ : ∀ o, V c (Pipeline.arrRef spec1 5) (ix2 o 0) = ((β o : ℝ) : EReal))
    (hw : ∀ t o, V c (Pipeline.arrRef spec1 3) (ix2 t o) = ((w t o : ℝ) : EReal))
    (hg' : ∀ o, V c (Pipeline.arrRef spec1 6) (ix2 o 0) = ((g' o : ℝ) : EReal))
    (hβ' : ∀ o, V c (Pipeline.arrRef spec1 7) (ix2 o 0) = ((β' o : ℝ) : EReal)) :
    (dat1 V c).arrAt 15 cfg1.N = fun j => ((cba w g' β' (act g β y) (j 0) (j 1) (j 2) * (1 / 8) : ℝ) : EReal) := by
  have l0 : ∀ t i, View.ld (iblk1 V c 0 t1_0) (Rect.unit ![0, 0, 0] ![1, 64, 4096] inb_S4x64x4096_S1x64x4096_0_0_0) (ix3 0 t i)
      = ((y 0 t i : ℝ) : EReal) := fun t i => ((ld_batch _ 0 _ t i).trans (blk1_0 V c _ t i)).trans (hy _ t i)
  have l1 : ∀ t i, View.ld (iblk1 V c 0 t1_0) (Rect.unit ![1, 0, 0] ![1, 64, 4096] inb_S4x64x4096_S1x64x4096_1_0_0) (ix3 0 t i)
      = ((y 1 t i : ℝ) : EReal) := fun t i => ((ld_batch _ 1 _ t i).trans (blk1_0 V c _ t i)).trans (hy _ t i)
  have l2 : ∀ t i, View.ld (iblk1 V c 0 t1_0) (Rect.unit ![2, 0, 0] ![1, 64, 4096] inb_S4x64x4096_S1x64x4096_2_0_0) (ix3 0 t i)
      = ((y 2 t i : ℝ) : EReal) := fun t i => ((ld_batch _ 2 _ t i).trans (blk1_0 V c _ t i)).trans (hy _ t i)
  have l3 : ∀ t i, View.ld (iblk1 V c 0 t1_0) (Rect.unit ![3, 0, 0] ![1, 64, 4096] inb_S4x64x4096_S1x64x4096_3_0_0) (ix3 0 t i)
      = ((y 3 t i : ℝ) : EReal) := fun t i => ((ld_batch _ 3 _ t i).trans (blk1_0 V c _ t i)).trans (hy _ t i)
  have eg := fun o => (blk1_4 V c o).trans (hg o)
  have eb := fun o => (blk1_5 V c o).trans (hβ o)
  have s1 := slope4_at (raw_at l0) (raw_at l1) (raw_at l2) (raw_at l3) eg
  have o1 := offset4_at (raw_at l0) (raw_at l1) (raw_at l2) (raw_at l3) eg eb
  have ew := fun t o => (blk1_3 V c t o).trans (hw t o)
  have eg' := fun o => (blk1_6 V c o).trans (hg' o)
  have eb' := fun o => (blk1_7 V c o).trans (hβ' o)
  have a0 := act_at l0 s1 o1
  have a1 := act_at l1 s1 o1
  have a2 := act_at l2 s1 o1
  have a3 := act_at l3 s1 o1
  have s2 := slope4_at (mm_at a0 ew) (mm_at a1 ew) (mm_at a2 ew) (mm_at a3 ew) eg'
  have o2 := offset4_at (mm_at a0 ew) (mm_at a1 ew) (mm_at a2 ew) (mm_at a3 ew) eg' eb'
  refine (dat1 V c).arrAt_eq_of_after_last 15 t1_0 (by decide +kernel) _ fun j => ?_
  blk_simp
  rw [after1_15]
  unfold Gen.outsAt1
  frame_open
  simp (disch := decide) only [↓ View.readCov_skip, ↓ View.readCov_cons_toLoadRect, ↓ View.readCov_fill]
  frame_out
  simp only [read_unread_whole, f9, f10, f11, f12, f14, f20, f22, f27, f29, f30, f31, f34, f36, f44, f45, f46, f48, f49, f50, f54, f56, f60, f62, f64, f65, f68, f69, f71, f72, f80, f81, f84, f85, f86]
  idx_vars j
  canon_tiles j h
  case piece0 =>
    obtain rfl : j0 = 3 := Fin.ext (h0.trans (by omega))
    rw [piece_idx64 j h1 h2]
    exact act8_at (mm3_at a3 ew) s2 o2 j1 j2
  case piece1 =>
    obtain rfl : j0 = 2 := Fin.ext (h0.trans (by omega))
    rw [piece_idx64 j h1 h2]
    exact act8_at (mm3_at a2 ew) s2 o2 j1 j2
  case piece2 =>
    obtain rfl : j0 = 1 := Fin.ext (h0.trans (by omega))
    rw [piece_idx64 j h1 h2]
    exact act8_at (mm3_at a1 ew) s2 o2 j1 j2
  case piece3 =>
    obtain rfl : j0 = 0 := Fin.ext (h0.trans (by omega))
    rw [piece_idx64 j h1 h2]
    exact act8_at (mm3_at a0 ew) s2 o2 j1 j2

set_option maxHeartbeats 1000000 in
/-- The keys. -/
theorem key_arr
    (hy : ∀ b t i, V c (Pipeline.arrRef spec1 1) (ix3 b t i) = ((y b t i : ℝ) : EReal))
    (hg : ∀ o, V c (Pipeline.arrRef spec1 9) (ix2 o 0) = ((g o : ℝ) : EReal))
    (hβ : ∀ o, V c (Pipeline.arrRef spec1 10) (ix2 o 0) = ((β o : ℝ) : EReal))
    (hw : ∀ t o, V c (Pipeline.arrRef spec1 8) (ix2 t o) = ((w t o : ℝ) : EReal))
    (hg' : ∀ o, V c (Pipeline.arrRef spec1 11) (ix2 o 0) = ((g' o : ℝ) : EReal))
    (hβ' : ∀ o, V c (Pipeline.arrRef spec1 12) (ix2 o 0) = ((β' o : ℝ) : EReal)) :
    (dat1 V c).arrAt 16 cfg1.N = fun j => ((cba w g' β' (act g β y) (j 0) (j 1) (j 2) : ℝ) : EReal) := by
  have l0 : ∀ t i, View.ld (iblk1 V c 1 t1_0) (Rect.unit ![0, 0, 0] ![1, 64, 4096] inb_S4x64x4096_S1x64x4096_0_0_0) (ix3 0 t i)
      = ((y 0 t i : ℝ) : EReal) := fun t i => ((ld_batch _ 0 _ t i).trans (blk1_1 V c _ t i)).trans (hy _ t i)
  have l1 : ∀ t i, View.ld (iblk1 V c 1 t1_0) (Rect.unit ![1, 0, 0] ![1, 64, 4096] inb_S4x64x4096_S1x64x4096_1_0_0) (ix3 0 t i)
      = ((y 1 t i : ℝ) : EReal) := fun t i => ((ld_batch _ 1 _ t i).trans (blk1_1 V c _ t i)).trans (hy _ t i)
  have l2 : ∀ t i, View.ld (iblk1 V c 1 t1_0) (Rect.unit ![2, 0, 0] ![1, 64, 4096] inb_S4x64x4096_S1x64x4096_2_0_0) (ix3 0 t i)
      = ((y 2 t i : ℝ) : EReal) := fun t i => ((ld_batch _ 2 _ t i).trans (blk1_1 V c _ t i)).trans (hy _ t i)
  have l3 : ∀ t i, View.ld (iblk1 V c 1 t1_0) (Rect.unit ![3, 0, 0] ![1, 64, 4096] inb_S4x64x4096_S1x64x4096_3_0_0) (ix3 0 t i)
      = ((y 3 t i : ℝ) : EReal) := fun t i => ((ld_batch _ 3 _ t i).trans (blk1_1 V c _ t i)).trans (hy _ t i)
  have eg := fun o => (blk1_9 V c o).trans (hg o)
  have eb := fun o => (blk1_10 V c o).trans (hβ o)
  have s1 := slope4_at (raw_at l0) (raw_at l1) (raw_at l2) (raw_at l3) eg
  have o1 := offset4_at (raw_at l0) (raw_at l1) (raw_at l2) (raw_at l3) eg eb
  have ew := fun t o => (blk1_8 V c t o).trans (hw t o)
  have eg' := fun o => (blk1_11 V c o).trans (hg' o)
  have eb' := fun o => (blk1_12 V c o).trans (hβ' o)
  have a0 := act_at l0 s1 o1
  have a1 := act_at l1 s1 o1
  have a2 := act_at l2 s1 o1
  have a3 := act_at l3 s1 o1
  have s2 := slope4_at (mm_at a0 ew) (mm_at a1 ew) (mm_at a2 ew) (mm_at a3 ew) eg'
  have o2 := offset4_at (mm_at a0 ew) (mm_at a1 ew) (mm_at a2 ew) (mm_at a3 ew) eg' eb'
  refine (dat1 V c).arrAt_eq_of_after_last 16 t1_0 (by decide +kernel) _ fun j => ?_
  blk_simp
  rw [after1_16]
  unfold Gen.outsAt1
  frame_open
  simp (disch := decide) only [↓ View.readCov_skip, ↓ View.readCov_cons_toLoadRect, ↓ View.readCov_fill]
  frame_out
  simp only [read_unread_whole, f9, f10, f11, f12, f14, f20, f22, f27, f29, f30, f31, f34, f36, f44, f45, f46, f48, f49, f50, f54, f56, f60, f62, f64, f65, f68, f69, f71, f72, f80, f81, f84, f85, f86]
  idx_vars j
  canon_tiles j h
  case piece0 =>
    obtain rfl : j0 = 3 := Fin.ext (h0.trans (by omega))
    rw [piece_idx64 j h1 h2]
    exact act1_at (mm3_at a3 ew) s2 o2 j1 j2
  case piece1 =>
    obtain rfl : j0 = 2 := Fin.ext (h0.trans (by omega))
    rw [piece_idx64 j h1 h2]
    exact act1_at (mm3_at a2 ew) s2 o2 j1 j2
  case piece2 =>
    obtain rfl : j0 = 1 := Fin.ext (h0.trans (by omega))
    rw [piece_idx64 j h1 h2]
    exact act1_at (mm3_at a1 ew) s2 o2 j1 j2
  case piece3 =>
    obtain rfl : j0 = 0 := Fin.ext (h0.trans (by omega))
    rw [piece_idx64 j h1 h2]
    exact act1_at (mm3_at a0 ew) s2 o2 j1 j2

set_option maxHeartbeats 1000000 in
/-- The values. -/
theorem value_arr
    (hy : ∀ b t i, V c (Pipeline.arrRef spec1 2) (ix3 b t i) = ((y b t i : ℝ) : EReal))
    (hg : ∀ o, V c (Pipeline.arrRef spec1 13) (ix2 o 0) = ((g o : ℝ) : EReal))
    (hβ : ∀ o, V c (Pipeline.arrRef spec1 14) (ix2 o 0) = ((β o : ℝ) : EReal)) :
    (dat1 V c).arrAt 17 cfg1.N = fun j => ((act g β y (j 0) (j 1) (j 2) : ℝ) : EReal) := by
  have l0 : ∀ t i, View.ld (iblk1 V c 2 t1_0) (Rect.unit ![0, 0, 0] ![1, 64, 4096] inb_S4x64x4096_S1x64x4096_0_0_0) (ix3 0 t i)
      = ((y 0 t i : ℝ) : EReal) := fun t i => ((ld_batch _ 0 _ t i).trans (blk1_2 V c _ t i)).trans (hy _ t i)
  have l1 : ∀ t i, View.ld (iblk1 V c 2 t1_0) (Rect.unit ![1, 0, 0] ![1, 64, 4096] inb_S4x64x4096_S1x64x4096_1_0_0) (ix3 0 t i)
      = ((y 1 t i : ℝ) : EReal) := fun t i => ((ld_batch _ 1 _ t i).trans (blk1_2 V c _ t i)).trans (hy _ t i)
  have l2 : ∀ t i, View.ld (iblk1 V c 2 t1_0) (Rect.unit ![2, 0, 0] ![1, 64, 4096] inb_S4x64x4096_S1x64x4096_2_0_0) (ix3 0 t i)
      = ((y 2 t i : ℝ) : EReal) := fun t i => ((ld_batch _ 2 _ t i).trans (blk1_2 V c _ t i)).trans (hy _ t i)
  have l3 : ∀ t i, View.ld (iblk1 V c 2 t1_0) (Rect.unit ![3, 0, 0] ![1, 64, 4096] inb_S4x64x4096_S1x64x4096_3_0_0) (ix3 0 t i)
      = ((y 3 t i : ℝ) : EReal) := fun t i => ((ld_batch _ 3 _ t i).trans (blk1_2 V c _ t i)).trans (hy _ t i)
  have eg := fun o => (blk1_13 V c o).trans (hg o)
  have eb := fun o => (blk1_14 V c o).trans (hβ o)
  have s1 := slope4_at (raw_at l0) (raw_at l1) (raw_at l2) (raw_at l3) eg
  have o1 := offset4_at (raw_at l0) (raw_at l1) (raw_at l2) (raw_at l3) eg eb
  refine (dat1 V c).arrAt_eq_of_after_last 17 t1_0 (by decide +kernel) _ fun j => ?_
  blk_simp
  rw [after1_17]
  unfold Gen.outsAt1
  frame_open
  simp (disch := decide) only [↓ View.readCov_skip, ↓ View.readCov_cons_toLoadRect, ↓ View.readCov_fill]
  frame_out
  simp only [read_unread_whole, f9, f10, f11, f12, f14, f20, f22, f27, f29, f30, f31, f34, f36, f44, f45, f46, f48, f49, f50, f54, f56, f60, f62, f64, f65, f68, f69, f71, f72, f80, f81, f84, f85, f86]
  idx_vars j
  canon_tiles j h
  case piece0 =>
    obtain rfl : j0 = 3 := Fin.ext (h0.trans (by omega))
    rw [piece_idx64 j h1 h2]
    exact act1_at l3 s1 o1 j1 j2
  case piece1 =>
    obtain rfl : j0 = 2 := Fin.ext (h0.trans (by omega))
    rw [piece_idx64 j h1 h2]
    exact act1_at l2 s1 o1 j1 j2
  case piece2 =>
    obtain rfl : j0 = 1 := Fin.ext (h0.trans (by omega))
    rw [piece_idx64 j h1 h2]
    exact act1_at l1 s1 o1 j1 j2
  case piece3 =>
    obtain rfl : j0 = 0 := Fin.ext (h0.trans (by omega))
    rw [piece_idx64 j h1 h2]
    exact act1_at l0 s1 o1 j1 j2

end Cert.KernelValue

end
-- ==== Proof.Attn.lean ====
/- The third of the kernel's four programs at real numbers: a block of queries against all keys and values. -/
module

public import proofs.«01_k».proof.Proof.Blocks
public import proofs.«01_k».proof.Proof.Model

@[expose] public section

set_option maxRecDepth 16384

noncomputable section

namespace Cert.KernelValue

open Idealize.ShloMosaic Idealize.ShloMosaic.TcCoe Idealize.SL.Sem Cert.KernelIdeal Cert.KernelIdeal.Gen Cert.Model

variable {q k v : Fin 4 → Fin 64 → Fin 4096 → ℝ}

/-- A block of the third program's result: the values combined by the weights at the block's pixels. -/
theorem mix_at {b : Fin 4} {p : Fin 1024 → Fin 4096} {vq : Vec Ideal S1x64x1024 .bf16} {vk vv : Vec Ideal S1x64x4096 .bf16}
    (hq : ∀ t r, vq (ix3 0 t r) = ((q b t (p r) * (1 / 8) : ℝ) : EReal)) (hk : ∀ t j, vk (ix3 0 t j) = ((k b t j : ℝ) : EReal))
    (hv : ∀ t j, vv (ix3 0 t j) = ((v b t j : ℝ) : EReal)) (t : Fin 64) (r : Fin 1024) :
    k2_pay1 (F := Ideal) vq vk vv (ix3 0 t r) = ((mix q k v b t (p r) : ℝ) : EReal) := by
  pointwise [k2_pay1]
  simp only [hq, hk, hv, ← EReal.coe_mul, ← coe_sum, sim_scaled, bits_bot]
  obtain ⟨m, hm⟩ := fold_max_real (fun j : Fin 4096 => ((sim q k b (p r) j : ℝ) : EReal)) (fun j => EReal.coe_ne_top _) 0 (EReal.coe_ne_bot _)
  simp only [hm, ← EReal.coe_sub, Ideal.exp_coe, ← coe_sum, div_real _ _ (exp_sum_pos _).ne', att_shift, ← EReal.coe_mul]
  rfl

variable (V : (c : Dev nD) → (b : Ref sig .tc) → Buf (Elt Ideal) ((c : Thread nD τ).loc b)) (c : Dev nD)

/-- Where the blocks of the third program lie. -/
theorem index2 : ∀ t : Fin cfg2.N, win2_0.index t = ![t.val / 4, 0, t.val % 4] ∧ win2_1.index t = ![t.val / 4, 0, 0]
    ∧ win2_2.index t = ![t.val / 4, 0, 0] ∧ win2_3.index t = ![t.val / 4, 0, t.val % 4] := by
  decide +kernel

/-- The pixel of a block's row. -/
def pix (t : Fin cfg2.N) (r : Fin 1024) : Fin 4096 := ⟨t.val % 4 * 1024 + r.val, by omega⟩

/-- The batch of a block. -/
def bat (t : Fin cfg2.N) : Fin 4 := ⟨t.val / 4, by have : t.val < 16 := t.isLt; omega⟩

theorem blk2_0 (t : Fin cfg2.N) (a : Fin 64) (r : Fin 1024) :
    iblk2 V c 0 t (ix3 0 a r) = V c (Pipeline.arrRef spec2 0) (ix3 (bat t) a (pix t r)) := by
  have h := (index2 t).1
  blk_ext [iblk2, h, bat, pix]

theorem blk2_1 (t : Fin cfg2.N) (a : Fin 64) (r : Fin 4096) :
    iblk2 V c 1 t (ix3 0 a r) = V c (Pipeline.arrRef spec2 1) (ix3 (bat t) a r) := by
  have h := (index2 t).2.1
  blk_ext [iblk2, h, bat]

theorem blk2_2 (t : Fin cfg2.N) (a : Fin 64) (r : Fin 4096) :
    iblk2 V c 2 t (ix3 0 a r) = V c (Pipeline.arrRef spec2 2) (ix3 (bat t) a r) := by
  have h := (index2 t).2.2.1
  blk_ext [iblk2, h, bat]

theorem emb2_3 (t : Fin cfg2.N) (y : S1x64x1024.Idx) :
    ((cfg2.win 3).blk t).view.emb y = ix3 (bat t) (y 1) (pix t (y 2)) := by
  have h := (index2 t).2.2.2
  blk_ext [h, bat, pix]

theorem idx2_3 (y : S1x64x1024.Idx) : y = ix3 0 (y 1) (y 2) := by
  blk_ext

/-- The third program leaves the values combined by the weights. -/
theorem mix_arr
    (hq : ∀ b t i, V c (Pipeline.arrRef spec2 0) (ix3 b t i) = ((q b t i * (1 / 8) : ℝ) : EReal))
    (hk : ∀ b t i, V c (Pipeline.arrRef spec2 1) (ix3 b t i) = ((k b t i : ℝ) : EReal))
    (hv : ∀ b t i, V c (Pipeline.arrRef spec2 2) (ix3 b t i) = ((v b t i : ℝ) : EReal)) :
    (dat2 V c).arrAt 3 cfg2.N = fun j => ((mix q k v (j 0) (j 1) (j 2) : ℝ) : EReal) := by
  refine (dat2 V c).arrAt_eq_of_covers 3 _ (by decide +kernel) fun t hf y => ?_
  rw [emb2_3 t y, after2_3]
  frame_out
  rw [idx2_3 y]
  exact mix_at (fun a r => (blk2_0 V c t a r).trans (hq _ _ _)) (fun a r => (blk2_1 V c t a r).trans (hk _ _ _))
    (fun a r => (blk2_2 V c t a r).trans (hv _ _ _)) (y 1) (y 2)

end Cert.KernelValue

end
-- ==== Proof.Out.lean ====
module
public import proofs.«01_k».proof.Proof.Blocks
public import proofs.«01_k».proof.Proof.Model

@[expose] public section
set_option maxRecDepth 16384
noncomputable section
namespace Cert.KernelValue
open Idealize.ShloMosaic Idealize.ShloMosaic.TcCoe Idealize.SL.Sem Cert.KernelIdeal Cert.KernelIdeal.Gen Cert.Model

section Payloads
variable {w : Fin 64 → Fin 256 → ℝ} {g β : Fin 256 → ℝ} {y : Fin 4 → Fin 64 → Fin 4096 → ℝ}
  {v0 : Vec Ideal S64x256 .f32} (hw : ∀ t o, v0 (ix2 t o) = ((w t o : ℝ) : EReal))

include hw in
theorem out_mm {u : Vec Ideal S1x64x4096 .f32} {b : Fin 4} (hu : ∀ t i, u (ix3 0 t i) = ((y b t i : ℝ) : EReal)) (o : Fin 256) (i : Fin 4096) :
    k3_pay2 (F := Ideal) v0 u (ix2 o i) = ((conv w y b o i : ℝ) : EReal) := by
  pointwise [k3_pay2]
  simp only [hw, hu, ← EReal.coe_mul, ← coe_sum]
  rfl
theorem out_mm4 (v0 : Vec Ideal S64x256 .f32) (u : Vec Ideal S1x64x4096 .f32) : k3_pay4 v0 u = k3_pay2 v0 u := rfl
theorem out_mm8 (v0 : Vec Ideal S64x256 .f32) (u : Vec Ideal S1x64x4096 .f32) : k3_pay8 v0 u = k3_pay2 v0 u := rfl
theorem out_p17 (a b c : FVec Ideal S256x1 .f32) (u : Vec Ideal S1x256x4096 .f32) : k3_pay17 a b c u = k3_pay16 a b c u := rfl
theorem out_p18 (a b c : FVec Ideal S256x1 .f32) (u : Vec Ideal S1x256x4096 .f32) : k3_pay18 a b c u = k3_pay16 a b c u := rfl
theorem out_p1 (a b c : FVec Ideal S256x1 .f32) (u : Vec Ideal S1x256x4096 .f32) : k3_pay1 c (k3_pay15 a b c) u = k3_pay16 a b c u := rfl
theorem out_s5 (v0 : Vec Ideal S64x256 .f32) (u : Vec Ideal S1x64x4096 .f32) : k3_pay5 v0 u = k3_pay3 v0 u := rfl
theorem out_s9 (v0 : Vec Ideal S64x256 .f32) (u : Vec Ideal S1x64x4096 .f32) : k3_pay9 (k3_pay8 v0 u) = k3_pay3 v0 u := rfl
theorem out_s11 (v0 : Vec Ideal S64x256 .f32) (u : Vec Ideal S1x64x4096 .f32) : k3_pay11 v0 u = k3_pay3 v0 u := rfl
theorem out_mm10 (v0 : Vec Ideal S64x256 .f32) (u : Vec Ideal S1x64x4096 .f32) : k3_pay10 v0 u = k3_pay2 v0 u := rfl

variable {u0 u1 u2 u3 : Vec Ideal S1x64x4096 .f32} (h0 : ∀ t i, u0 (ix3 0 t i) = ((y 0 t i : ℝ) : EReal))
  (h1 : ∀ t i, u1 (ix3 0 t i) = ((y 1 t i : ℝ) : EReal)) (h2 : ∀ t i, u2 (ix3 0 t i) = ((y 2 t i : ℝ) : EReal))
  (h3 : ∀ t i, u3 (ix3 0 t i) = ((y 3 t i : ℝ) : EReal))

include hw h0 h1 h2 h3
theorem out_mean (o : Fin 256) : k3_pay13 (F := Ideal) v0 (k3_pay6 v0 u0 u1) (k3_pay8 v0 u2) u3 (ix2 o 0)
    = ((mean (fun b i => conv w y b o i) : ℝ) : EReal) := by
  pointwise [k3_pay13, k3_pay6, out_mm4, out_mm8, out_mm10]
  simp only [out_mm hw h0, out_mm hw h1, out_mm hw h2, out_mm hw h3, ← coe_sum, ← EReal.coe_add, bits_n]
  rw [div_real _ _ (by norm_num), mean4 (fun b i => conv w y b o i)]
theorem out_inv {v : Vec Ideal S256x1 .f32} (hg : ∀ o, v (ix2 o 0) = ((g o : ℝ) : EReal)) (o : Fin 256) :
   k3_pay14 (F := Ideal) v0 (k3_pay6 v0 u0 u1) (k3_pay7 v0 u0 u1) (k3_pay8 v0 u2) u3 v (ix2 o 0)
    = (((√(var (fun b i => conv w y b o i) + eps))⁻¹ * g o : ℝ) : EReal) := by
  pointwise [k3_pay14, k3_pay13, k3_pay7, k3_pay6, out_mm4, out_mm8, out_mm10]
  simp only [out_mm hw h0, out_mm hw h1, out_mm hw h2, out_mm hw h3, ← coe_sum, ← EReal.coe_add, ← EReal.coe_mul, bits_n, bits_eps,
    div_real _ (16384 : ℝ) (by norm_num), ← EReal.coe_sub, mean4 (fun b i => conv w y b o i), var4 (fun b i => conv w y b o i), hg]
  rw [rsqrt_real _ (add_pos_of_nonneg_of_pos (var_nonneg _) eps_pos), ← EReal.coe_mul]

omit hw h0 h1 h2 h3 in
/-- A stored batch: the convolution normalised, shifted and cut. -/
theorem out_piece (hw : ∀ t o, v0 (ix2 t o) = ((w t o : ℝ) : EReal)) {u : Vec Ideal S1x64x4096 .f32} {b : Fin 4}
    (hu : ∀ t i, u (ix3 0 t i) = ((y b t i : ℝ) : EReal)) {vb : Vec Ideal S256x1 .f32} (hβ : ∀ o, vb (ix2 o 0) = ((β o : ℝ) : EReal))
    {mn iv : FVec Ideal S256x1 .f32} (hm : ∀ o, mn (ix2 o 0) = ((mean (fun b i => conv w y b o i) : ℝ) : EReal))
    (hi : ∀ o, iv (ix2 o 0) = (((√(var (fun b i => conv w y b o i) + eps))⁻¹ * g o : ℝ) : EReal)) (o : Fin 256) (i : Fin 4096) :
    k3_pay16 (F := Ideal) (k3_pay12 vb) mn iv (k3_pay3 v0 u) (ix3 0 o i) = ((cba w g β y b o i : ℝ) : EReal) := by
  pointwise [k3_pay16, k3_pay15, k3_pay12, k3_pay3]
  simp only [out_mm hw hu, hβ, hm, hi, ← EReal.coe_mul, ← EReal.coe_sub, ← EReal.coe_add, max_real_zero]
  rw [bn_eq (g o) (β o) (fun b i => conv w y b o i) b i]
  rfl
end Payloads

section Array
variable (V : (c : Dev nD) → (b : Ref sig .tc) → Buf (Elt Ideal) ((c : Thread nD τ).loc b))
  {w : Fin 64 → Fin 256 → ℝ} {g β : Fin 256 → ℝ} {y : Fin 4 → Fin 64 → Fin 4096 → ℝ}

set_option maxHeartbeats 1000000 in
/-- The last program leaves the layer of its input. -/
theorem out_arr (c : Dev nD)
    (hy : ∀ b t i, V c (Pipeline.arrRef spec3 0) (ix3 b t i) = ((y b t i : ℝ) : EReal))
    (hw : ∀ t o, V c (Pipeline.arrRef spec3 1) (ix2 t o) = ((w t o : ℝ) : EReal))
    (hg : ∀ o, V c (Pipeline.arrRef spec3 2) (ix2 o 0) = ((g o : ℝ) : EReal))
    (hβ : ∀ o, V c (Pipeline.arrRef spec3 3) (ix2 o 0) = ((β o : ℝ) : EReal)) :
    (dat3 V c).arrAt 4 cfg3.N = fun j => ((cba w g β y (j 0) (j 1) (j 2) : ℝ) : EReal) := by
  have i30 : win3_0.index t3_0 = ![0, 0, 0] := by decide +kernel
  have i31 : win3_1.index t3_0 = ![0, 0] := by decide +kernel
  have i32 : win3_2.index t3_0 = ![0, 0] := by decide +kernel
  have i33 : win3_3.index t3_0 = ![0, 0] := by decide +kernel
  have ey : ∀ b t i, iblk3 V c 0 t3_0 (ix3 b t i) = ((y b t i : ℝ) : EReal) := fun b t i => by
    rw [← hy]; blk_ext [iblk3, i30, i31, i32, i33]
  have ew : ∀ t o, iblk3 V c 1 t3_0 (ix2 t o) = ((w t o : ℝ) : EReal) := fun t o => by
    rw [← hw]; blk_ext [iblk3, i30, i31, i32, i33]
  have eg : ∀ o, iblk3 V c 2 t3_0 (ix2 o 0) = ((g o : ℝ) : EReal) := fun o => by
    rw [← hg]; blk_ext [iblk3, i30, i31, i32, i33]
  have eb : ∀ o, iblk3 V c 3 t3_0 (ix2 o 0) = ((β o : ℝ) : EReal) := fun o => by
    rw [← hβ]; blk_ext [iblk3, i30, i31, i32, i33]
  have l0 : ∀ t i, View.ld (iblk3 V c 0 t3_0) (Rect.unit ![0, 0, 0] ![1, 64, 4096] inb_S4x64x4096_S1x64x4096_0_0_0) (ix3 0 t i)
      = ((y 0 t i : ℝ) : EReal) := fun t i => (ld_batch _ 0 _ t i).trans (ey _ t i)
  have l1 : ∀ t i, View.ld (iblk3 V c 0 t3_0) (Rect.unit ![1, 0, 0] ![1, 64, 4096] inb_S4x64x4096_S1x64x4096_1_0_0) (ix3 0 t i)
      = ((y 1 t i : ℝ) : EReal) := fun t i => (ld_batch _ 1 _ t i).trans (ey _ t i)
  have l2 : ∀ t i, View.ld (iblk3 V c 0 t3_0) (Rect.unit ![2, 0, 0] ![1, 64, 4096] inb_S4x64x4096_S1x64x4096_2_0_0) (ix3 0 t i)
      = ((y 2 t i : ℝ) : EReal) := fun t i => (ld_batch _ 2 _ t i).trans (ey _ t i)
  have l3 : ∀ t i, View.ld (iblk3 V c 0 t3_0) (Rect.unit ![3, 0, 0] ![1, 64, 4096] inb_S4x64x4096_S1x64x4096_3_0_0) (ix3 0 t i)
      = ((y 3 t i : ℝ) : EReal) := fun t i => (ld_batch _ 3 _ t i).trans (ey _ t i)
  refine (dat3 V c).arrAt_eq_of_after_last 4 t3_0 (by decide +kernel) _ fun j => ?_
  blk_simp
  rw [after3_4]
  unfold Gen.outsAt3
  frame_open
  simp (disch := decide) only [↓ View.readCov_skip, ↓ View.readCov_cons_toLoadRect, ↓ View.readCov_fill]
  frame_out
  simp only [read_unread_whole, out_p17, out_p18, out_p1, out_s5, out_s9, out_s11]
  have hm := out_mean ew l0 l1 l2 l3
  have hi := out_inv ew l0 l1 l2 l3 eg
  idx_vars j
  canon_tiles j h
  case piece0 =>
    obtain rfl : j0 = 3 := Fin.ext (h0.trans (by omega))
    rw [piece_idx j h1 h2]
    exact out_piece ew l3 eb hm hi j1 j2
  case piece1 =>
    obtain rfl : j0 = 2 := Fin.ext (h0.trans (by omega))
    rw [piece_idx j h1 h2]
    exact out_piece ew l2 eb hm hi j1 j2
  case piece2 =>
    obtain rfl : j0 = 1 := Fin.ext (h0.trans (by omega))
    rw [piece_idx j h1 h2]
    exact out_piece ew l1 eb hm hi j1 j2
  case piece3 =>
    obtain rfl : j0 = 0 := Fin.ext (h0.trans (by omega))
    rw [piece_idx j h1 h2]
    exact out_piece ew l0 eb hm hi j1 j2
end Array
end Cert.KernelValue
end
-- ==== Proof.Run.lean ====
/- The kernel's run at real numbers: its four programs one after the other. -/
module

public import proofs.«01_k».proof.Proof.Args
public import proofs.«01_k».proof.Proof.First
public import proofs.«01_k».proof.Proof.Proj
public import proofs.«01_k».proof.Proof.Attn
public import proofs.«01_k».proof.Proof.Out

@[expose] public section

set_option maxRecDepth 16384

noncomputable section

namespace Cert.KernelValue

open Idealize.ShloMosaic Idealize.ShloMosaic.TcCoe Idealize.SL.Sem Cert.KernelIdeal Cert.KernelIdeal.Gen Cert.Model

variable (m : (ℓ : Loc nD τ sig) → Buf (Elt Ideal) ℓ) (ρ : Dev nD → PrngReg) (c : Dev nD)

/-- The features as the first program reads them. -/
theorem read_v0 (b : Fin 4) (a : Fin 256) (i : Fin 4096) :
    V1 m ρ c main_v0 (ix3 b a i) = m ((c : Thread nD τ).loc main_arg0) (ix4 b a (row i) (col i)) := by
  show StableHlo.after hostOps0 (W0 m ρ c) (Proc.devRef .tc main_v0) _ = _
  entry_read
  pointwise [row, col]

/-- The logits as the first program reads them. -/
theorem read_v1 (b : Fin 4) (a : Fin 150) (i : Fin 4096) :
    V1 m ρ c main_v1 (ix3 b a i) = m ((c : Thread nD τ).loc main_arg1) (ix4 b a (row i) (col i)) := by
  show StableHlo.after hostOps0 (W0 m ρ c) (Proc.devRef .tc main_v1) _ = _
  entry_read
  pointwise [row, col]

/-! ## The gains and offsets as columns -/

theorem read_v3 (o : Fin 64) : V3 m ρ c main_v3 (ix2 o 0) = m ((c : Thread nD τ).loc main_arg4) (ix1 o) := by
  rw [← W2_args m ρ c main_arg4 (by decide)]
  show StableHlo.after hostOps1 (W2 m ρ c) (Proc.devRef .tc main_v3) _ = _
  entry_read
  pointwise

theorem read_v4 (o : Fin 64) : V3 m ρ c main_v4 (ix2 o 0) = m ((c : Thread nD τ).loc main_arg5) (ix1 o) := by
  rw [← W2_args m ρ c main_arg5 (by decide)]
  show StableHlo.after hostOps1 (W2 m ρ c) (Proc.devRef .tc main_v4) _ = _
  entry_read
  pointwise

theorem read_v5 (o : Fin 64) : V3 m ρ c main_v5 (ix2 o 0) = m ((c : Thread nD τ).loc main_arg7) (ix1 o) := by
  rw [← W2_args m ρ c main_arg7 (by decide)]
  show StableHlo.after hostOps1 (W2 m ρ c) (Proc.devRef .tc main_v5) _ = _
  entry_read
  pointwise

theorem read_v6 (o : Fin 64) : V3 m ρ c main_v6 (ix2 o 0) = m ((c : Thread nD τ).loc main_arg8) (ix1 o) := by
  rw [← W2_args m ρ c main_arg8 (by decide)]
  show StableHlo.after hostOps1 (W2 m ρ c) (Proc.devRef .tc main_v6) _ = _
  entry_read
  pointwise

theorem read_v7 (o : Fin 64) : V3 m ρ c main_v7 (ix2 o 0) = m ((c : Thread nD τ).loc main_arg10) (ix1 o) := by
  rw [← W2_args m ρ c main_arg10 (by decide)]
  show StableHlo.after hostOps1 (W2 m ρ c) (Proc.devRef .tc main_v7) _ = _
  entry_read
  pointwise

theorem read_v8 (o : Fin 64) : V3 m ρ c main_v8 (ix2 o 0) = m ((c : Thread nD τ).loc main_arg11) (ix1 o) := by
  rw [← W2_args m ρ c main_arg11 (by decide)]
  show StableHlo.after hostOps1 (W2 m ρ c) (Proc.devRef .tc main_v8) _ = _
  entry_read
  pointwise

theorem read_v9 (o : Fin 64) : V3 m ρ c main_v9 (ix2 o 0) = m ((c : Thread nD τ).loc main_arg13) (ix1 o) := by
  rw [← W2_args m ρ c main_arg13 (by decide)]
  show StableHlo.after hostOps1 (W2 m ρ c) (Proc.devRef .tc main_v9) _ = _
  entry_read
  pointwise

theorem read_v10 (o : Fin 64) : V3 m ρ c main_v10 (ix2 o 0) = m ((c : Thread nD τ).loc main_arg14) (ix1 o) := by
  rw [← W2_args m ρ c main_arg14 (by decide)]
  show StableHlo.after hostOps1 (W2 m ρ c) (Proc.devRef .tc main_v10) _ = _
  entry_read
  pointwise

theorem read_v11 (o : Fin 64) : V3 m ρ c main_v11 (ix2 o 0) = m ((c : Thread nD τ).loc main_arg16) (ix1 o) := by
  rw [← W2_args m ρ c main_arg16 (by decide)]
  show StableHlo.after hostOps1 (W2 m ρ c) (Proc.devRef .tc main_v11) _ = _
  entry_read
  pointwise

theorem read_v12 (o : Fin 64) : V3 m ρ c main_v12 (ix2 o 0) = m ((c : Thread nD τ).loc main_arg17) (ix1 o) := by
  rw [← W2_args m ρ c main_arg17 (by decide)]
  show StableHlo.after hostOps1 (W2 m ρ c) (Proc.devRef .tc main_v12) _ = _
  entry_read
  pointwise

theorem read_v15 (o : Fin 256) : V6 m ρ c main_v15 (ix2 o 0) = m ((c : Thread nD τ).loc main_arg19) (ix1 o) := by
  rw [← W5_args m ρ c main_arg19 (by decide)]
  show StableHlo.after hostOps3 (W5 m ρ c) (Proc.devRef .tc main_v15) _ = _
  entry_read
  pointwise

theorem read_v16 (o : Fin 256) : V6 m ρ c main_v16 (ix2 o 0) = m ((c : Thread nD τ).loc main_arg20) (ix1 o) := by
  rw [← W5_args m ρ c main_arg20 (by decide)]
  show StableHlo.after hostOps3 (W5 m ρ c) (Proc.devRef .tc main_v16) _ = _
  entry_read
  pointwise

/-! ## The four programs, one after the other -/

variable {A : Args} (H : Holds A (m ((c : Thread nD τ).loc main_arg0)) (m ((c : Thread nD τ).loc main_arg1))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20)))

include H

theorem yq_at (b : Fin 4) (t : Fin 64) (i : Fin 4096) :
    V3 m ρ c main_v2_0 (ix3 b t i) = ((conv A.wq1 A.X b t i : ℝ) : EReal) :=
  (congrFun ((W3_of m ρ c main_v2_0 (by decide)).trans ((W2_arr m ρ c 5).trans (yq_arr (V1 m ρ) c
    (fun b a i => (read_v0 m ρ c b a i).trans (H.x b a i))
    (fun a o => (congrFun (W1_args m ρ c main_arg3 (by decide)) _).trans (H.wq1 a o))))) (ix3 b t i))

theorem yk_at (b : Fin 4) (t : Fin 64) (i : Fin 4096) :
    V3 m ρ c main_v2_1 (ix3 b t i) = ((conv A.wk1 (feat A.L A.X) b t i : ℝ) : EReal) :=
  (congrFun ((W3_of m ρ c main_v2_1 (by decide)).trans ((W2_arr m ρ c 6).trans (yk_arr (V1 m ρ) c
    (fun b a i => (read_v0 m ρ c b a i).trans (H.x b a i))
    (fun b a i => (read_v1 m ρ c b a i).trans (H.l b a i))
    (fun a o => (congrFun (W1_args m ρ c main_arg9 (by decide)) _).trans (H.wk1 a o))))) (ix3 b t i))

theorem yv_at (b : Fin 4) (t : Fin 64) (i : Fin 4096) :
    V3 m ρ c main_v2_2 (ix3 b t i) = ((conv A.wv (feat A.L A.X) b t i : ℝ) : EReal) :=
  (congrFun ((W3_of m ρ c main_v2_2 (by decide)).trans ((W2_arr m ρ c 7).trans (yv_arr (V1 m ρ) c
    (fun b a i => (read_v0 m ρ c b a i).trans (H.x b a i))
    (fun b a i => (read_v1 m ρ c b a i).trans (H.l b a i))
    (fun a o => (congrFun (W1_args m ρ c main_arg15 (by decide)) _).trans (H.wv a o))))) (ix3 b t i))

/-- The queries as the third program reads them. -/
theorem qs_at (b : Fin 4) (t : Fin 64) (i : Fin 4096) :
    V4 m ρ c main_v13_0 (ix3 b t i) = ((A.q b t i * (1 / 8) : ℝ) : EReal) :=
  congrFun ((W4_arr m ρ c 15).trans (query_arr (V3 m ρ) c (yq_at m ρ c H)
    (fun o => (read_v3 m ρ c o).trans (H.gq1 o)) (fun o => (read_v4 m ρ c o).trans (H.bq1 o))
    (fun a o => (congrFun (W3_args m ρ c main_arg6 (by decide)) _).trans (H.wq2 a o))
    (fun o => (read_v5 m ρ c o).trans (H.gq2 o)) (fun o => (read_v6 m ρ c o).trans (H.bq2 o)))) (ix3 b t i)

/-- The keys as the third program reads them. -/
theorem ks_at (b : Fin 4) (t : Fin 64) (i : Fin 4096) :
    V4 m ρ c main_v13_1 (ix3 b t i) = ((A.k b t i : ℝ) : EReal) :=
  congrFun ((W4_arr m ρ c 16).trans (key_arr (V3 m ρ) c (yk_at m ρ c H)
    (fun o => (read_v7 m ρ c o).trans (H.gk1 o)) (fun o => (read_v8 m ρ c o).trans (H.bk1 o))
    (fun a o => (congrFun (W3_args m ρ c main_arg12 (by decide)) _).trans (H.wk2 a o))
    (fun o => (read_v9 m ρ c o).trans (H.gk2 o)) (fun o => (read_v10 m ρ c o).trans (H.bk2 o)))) (ix3 b t i)

/-- The values as the third program reads them. -/
theorem vs_at (b : Fin 4) (t : Fin 64) (i : Fin 4096) :
    V4 m ρ c main_v13_2 (ix3 b t i) = ((A.v b t i : ℝ) : EReal) :=
  congrFun ((W4_arr m ρ c 17).trans (value_arr (V3 m ρ) c (yv_at m ρ c H)
    (fun o => (read_v11 m ρ c o).trans (H.gv o)) (fun o => (read_v12 m ρ c o).trans (H.bv o)))) (ix3 b t i)

/-- The third program's result as the fourth reads it. -/
theorem mix_read (b : Fin 4) (t : Fin 64) (i : Fin 4096) :
    V6 m ρ c main_v14 (ix3 b t i) = ((mix A.q A.k A.v b t i : ℝ) : EReal) :=
  congrFun ((W6_of m ρ c main_v14 (by decide)).trans ((W5_arr m ρ c 3).trans (mix_arr (V4 m ρ) c (qs_at m ρ c H)
    (ks_at m ρ c H) (vs_at m ρ c H)))) (ix3 b t i)

/-- What the fourth program leaves. -/
theorem out_read (b : Fin 4) (o : Fin 256) (i : Fin 4096) :
    W7 m ρ c (Proc.devRef .tc main_v17) (ix3 b o i) = ((A.out b o i : ℝ) : EReal) :=
  congrFun ((W7_arr m ρ c 4).trans (out_arr (V6 m ρ) c (mix_read m ρ c H)
    (fun a o => (congrFun (W6_args m ρ c main_arg18 (by decide)) _).trans (H.wo a o))
    (fun o => (read_v15 m ρ c o).trans (H.go o)) (fun o => (read_v16 m ρ c o).trans (H.bo o)))) (ix3 b o i)

/-- The kernel's result array. -/
theorem result_read : W8 m ρ c (Proc.devRef .tc main_v18)
    = fun j : S4x256x64x64.Idx => ((A.out (j 0) (j 1) (pixel (j 2) (j 3)) : ℝ) : EReal) := by
  show StableHlo.after hostOps4 (W7 m ρ c) (Proc.devRef .tc main_v18) = _
  entry_read
  funext j
  refine Eq.trans ?_ (out_read m ρ c H (j 0) (j 1) (pixel (j 2) (j 3)))
  pointwise [pixel]

end Cert.KernelValue

end
-- ==== Proof.KernelRun.lean ====
/- The kernel's run, with what the result array holds at its end. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run of the kernel ends with the result array at what the last reshape makes of the fourth program's array, and the arguments unchanged. -/
theorem kernel_run : θ_run defs (onTc (τ := τ) (main (F := F))) ⟨m, fun _ => 0, ρ⟩ (fun r => (∀ c : Dev nD,
      r.2.mem ((c.tc : Thread nD τ).loc main_v18) = W8 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v18 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩), funext fun g => hz g (.inr (no_unscoped g.2))⟩)

end Cert.KernelIdeal.Gen

end
-- ==== Proof.Layers.lean ====
/- The reference's layers at real numbers: the normalisation over batch and pixels, and the `1 × 1` convolution. -/
module

public import proofs.«01_k».proof.Proof.Args
public import proofs.«01_k».proof.Proof.Reals
public import proofs.«01_k».proof.Proof.Gen.ReferenceIdeal.Read

@[expose] public section

set_option maxRecDepth 16384

noncomputable section

namespace Cert.ReferenceValue

open Idealize.ShloMosaic Idealize.ShloMosaic.TcCoe Idealize.SL.Sem Cert.ReferenceIdeal Cert.ReferenceIdeal.Gen Cert.Model

/-- A sum over batch, rows and columns is a sum over batch and pixels. -/
theorem sum_channel {n : ℕ} (hr : (⟨4, ![4, n, 64, 64]⟩ : Shape).ReducesTo [0, 2, 3] ⟨1, ![n]⟩)
    (y : (⟨4, ![4, n, 64, 64]⟩ : Shape).Idx → EReal) (a : EReal) (o : Fin n) :
    Ideal.hostReduceAdd hr y a (ix1 o) = a + ∑ b : Fin 4, ∑ i : Fin 4096, y (ix4 b o (row i) (col i)) := by
  unfold Ideal.hostReduceAdd
  rw [← Fintype.sum_prod_type' (fun (b : Fin 4) (i : Fin 4096) => y (ix4 b o (row i) (col i)))]
  congr 1
  refine Finset.sum_filter_eq_sum_of_fiber _ (fun p : Fin 4 × Fin 4096 => ix4 p.1 o (row p.2) (col p.2)) ?_ ?_ y
  · intro p p' e
    have e0 : p.1 = p'.1 := congrFun e 0
    have e2 : row p.2 = row p'.2 := congrFun e 2
    have e3 : col p.2 = col p'.2 := congrFun e 3
    refine Prod.ext e0 ?_
    rw [← pixel_row_col p.2, ← pixel_row_col p'.2, e2, e3]
  · intro i
    constructor
    · intro e
      refine ⟨(i 0, pixel (i 2) (i 3)), ?_⟩
      funext a
      match a with
      | ⟨0, _⟩ => rfl
      | ⟨1, _⟩ => exact (congrFun e 0).symm
      | ⟨2, _⟩ => exact row_pixel (i 2) (i 3)
      | ⟨3, _⟩ => exact col_pixel (i 2) (i 3)
    · rintro ⟨p, rfl⟩
      funext b
      match b with
      | ⟨0, _⟩ => rfl

theorem sitofp_zero : FloatOps.sitofp (F := Ideal) .f32 (0#32) = ((0 : ℝ) : EReal) := by
  show ((((0#32 : BitVec 32).toInt : ℤ) : ℝ) : EReal) = _
  simp

/-! ## The normalisation of 64 channels -/

/-- The channels' means. -/
def mean64 (y : FVec Ideal S4x64x64x64 .f32) : FVec Ideal S1x64x1x1 .f32 :=
  Host.divf (broadcastInDim S1x64x1x1 ![1] bcast_S64_S1x64x1x1_1 (Host.reduceAdd y (constant S_ .f32 0x00000000#32) reducesTo_S4x64x64x64_S64_d0_2_3 h_S_))
    (broadcastInDim S1x64x1x1 ![] bcast_S_S1x64x1x1 (constant S_ .f32 0x46800000#32))

/-- The number of elements of a channel. -/
def count64 : FVec Ideal S_ .f32 := subf (constant S_ .f32 0x46800000#32) (sitofp .f32 (constantI S_ 32 0#32))

/-- The channels' variances. -/
def var64 (y : FVec Ideal S4x64x64x64 .f32) : FVec Ideal S1x64x1x1 .f32 :=
  select (broadcastInDim S1x64x1x1 ![] bcast_S_S1x64x1x1 (cmpf .ogt count64 (constant S_ .f32 0x00000000#32)))
    (Host.divf (broadcastInDim S1x64x1x1 ![1] bcast_S64_S1x64x1x1_1 (Host.reduceAdd
        (mulf (subf y (broadcastInDim S4x64x64x64 ![0, 1, 2, 3] bcast_S1x64x1x1_S4x64x64x64_0_1_2_3 (mean64 y))) (subf y (broadcastInDim S4x64x64x64 ![0, 1, 2, 3] bcast_S1x64x1x1_S4x64x64x64_0_1_2_3 (mean64 y)))) (constant S_ .f32 0x00000000#32) reducesTo_S4x64x64x64_S64_d0_2_3 h_S_))
      (broadcastInDim S1x64x1x1 ![] bcast_S_S1x64x1x1 count64))
    (broadcastInDim S1x64x1x1 ![] bcast_S_S1x64x1x1 (id (constant S_ .f32 0x7FC00000#32)))

/-- The layer: normalised, scaled, shifted and cut at zero. -/
def norm64 (y : FVec Ideal S4x64x64x64 .f32) (g β : FVec Ideal S64 .f32) : FVec Ideal S4x64x64x64 .f32 :=
  maximumf (addf (mulf (broadcastInDim S4x64x64x64 ![0, 1, 2, 3] bcast_S1x64x1x1_S4x64x64x64_0_1_2_3 (shapeCast _ g shapeCasts_S64_S1x64x1x1))
      (Host.divf (subf y (broadcastInDim S4x64x64x64 ![0, 1, 2, 3] bcast_S1x64x1x1_S4x64x64x64_0_1_2_3 (mean64 y)))
        (broadcastInDim S4x64x64x64 ![0, 1, 2, 3] bcast_S1x64x1x1_S4x64x64x64_0_1_2_3 (Host.sqrt (addf (var64 y) (broadcastInDim S1x64x1x1 ![] bcast_S_S1x64x1x1 (constant S_ .f32 0x3727C5AC#32)))))))
      (broadcastInDim S4x64x64x64 ![0, 1, 2, 3] bcast_S1x64x1x1_S4x64x64x64_0_1_2_3 (shapeCast _ β shapeCasts_S64_S1x64x1x1)))
    (broadcastInDim S4x64x64x64 ![] bcast_S_S4x64x64x64 (constant S_ .f32 0x00000000#32))

section
variable {y : FVec Ideal S4x64x64x64 .f32} {f : Fin 4 → Fin 64 → Fin 4096 → ℝ}
  (hy : ∀ b o i, y (ix4 b o (row i) (col i)) = ((f b o i : ℝ) : EReal))
include hy

theorem mean64_at (o : Fin 64) : mean64 y (ix4 0 o 0 0) = ((mean (fun b i => f b o i) : ℝ) : EReal) := by
  pointwise [mean64]
  rw [sum_channel]
  simp only [hy, ← coe_sum, bits_n, zero_add]
  rw [div_real _ _ (by norm_num)]
  rfl

theorem var64_at (o : Fin 64) : var64 y (ix4 0 o 0 0) = ((var (fun b i => f b o i) : ℝ) : EReal) := by
  have hm := mean64_at hy
  pointwise [var64, count64]
  rw [sum_channel]
  pointwise
  simp only [hm, hy, ← EReal.coe_sub, ← EReal.coe_mul, ← coe_sum, bits_n, zero_add]
  have hn : ((16384 : ℝ) : EReal) - FloatOps.sitofp (F := Ideal) .f32 (0#32) = ((16384 : ℝ) : EReal) := by
    rw [sitofp_zero, ← EReal.coe_sub, sub_zero]
  rw [hn, if_pos (EReal.coe_pos.2 (by norm_num)), div_real _ _ (by norm_num)]
  rfl

theorem norm64_at {g β : FVec Ideal S64 .f32} {g' β' : Fin 64 → ℝ} (hg : ∀ o, g (ix1 o) = ((g' o : ℝ) : EReal))
    (hβ : ∀ o, β (ix1 o) = ((β' o : ℝ) : EReal)) (b : Fin 4) (o : Fin 64) (i : Fin 4096) :
    norm64 y g β (ix4 b o (row i) (col i)) = ((act g' β' f b o i : ℝ) : EReal) := by
  have hm := mean64_at hy o
  have hv := var64_at hy o
  pointwise [norm64]
  simp only [hm, hv, hy, hg, hβ, bits_eps, ← EReal.coe_add, ← EReal.coe_sub]
  rw [sqrt_real _ (add_nonneg (var_nonneg _) eps_pos.le), div_real _ _ (Real.sqrt_pos.2 (add_pos_of_nonneg_of_pos (var_nonneg _) eps_pos)).ne']
  simp only [← EReal.coe_mul, ← EReal.coe_add, max_real_zero]
  rfl

end

/-! ## The normalisation of 256 channels -/

/-- The channels' means. -/
def mean256 (y : FVec Ideal S4x256x64x64 .f32) : FVec Ideal S1x256x1x1 .f32 :=
  Host.divf (broadcastInDim S1x256x1x1 ![1] bcast_S256_S1x256x1x1_1 (Host.reduceAdd y (constant S_ .f32 0x00000000#32) reducesTo_S4x256x64x64_S256_d0_2_3 h_S_))
    (broadcastInDim S1x256x1x1 ![] bcast_S_S1x256x1x1 (constant S_ .f32 0x46800000#32))

/-- The number of elements of a channel. -/
def count256 : FVec Ideal S_ .f32 := subf (constant S_ .f32 0x46800000#32) (sitofp .f32 (constantI S_ 32 0#32))

/-- The channels' variances. -/
def var256 (y : FVec Ideal S4x256x64x64 .f32) : FVec Ideal S1x256x1x1 .f32 :=
  select (broadcastInDim S1x256x1x1 ![] bcast_S_S1x256x1x1 (cmpf .ogt count256 (constant S_ .f32 0x00000000#32)))
    (Host.divf (broadcastInDim S1x256x1x1 ![1] bcast_S256_S1x256x1x1_1 (Host.reduceAdd
        (mulf (subf y (broadcastInDim S4x256x64x64 ![0, 1, 2, 3] bcast_S1x256x1x1_S4x256x64x64_0_1_2_3 (mean256 y))) (subf y (broadcastInDim S4x256x64x64 ![0, 1, 2, 3] bcast_S1x256x1x1_S4x256x64x64_0_1_2_3 (mean256 y)))) (constant S_ .f32 0x00000000#32) reducesTo_S4x256x64x64_S256_d0_2_3 h_S_))
      (broadcastInDim S1x256x1x1 ![] bcast_S_S1x256x1x1 count256))
    (broadcastInDim S1x256x1x1 ![] bcast_S_S1x256x1x1 (id (constant S_ .f32 0x7FC00000#32)))

/-- The layer: normalised, scaled, shifted and cut at zero. -/
def norm256 (y : FVec Ideal S4x256x64x64 .f32) (g β : FVec Ideal S256 .f32) : FVec Ideal S4x256x64x64 .f32 :=
  maximumf (addf (mulf (broadcastInDim S4x256x64x64 ![0, 1, 2, 3] bcast_S1x256x1x1_S4x256x64x64_0_1_2_3 (shapeCast _ g shapeCasts_S256_S1x256x1x1))
      (Host.divf (subf y (broadcastInDim S4x256x64x64 ![0, 1, 2, 3] bcast_S1x256x1x1_S4x256x64x64_0_1_2_3 (mean256 y)))
        (broadcastInDim S4x256x64x64 ![0, 1, 2, 3] bcast_S1x256x1x1_S4x256x64x64_0_1_2_3 (Host.sqrt (addf (var256 y) (broadcastInDim S1x256x1x1 ![] bcast_S_S1x256x1x1 (constant S_ .f32 0x3727C5AC#32)))))))
      (broadcastInDim S4x256x64x64 ![0, 1, 2, 3] bcast_S1x256x1x1_S4x256x64x64_0_1_2_3 (shapeCast _ β shapeCasts_S256_S1x256x1x1)))
    (broadcastInDim S4x256x64x64 ![] bcast_S_S4x256x64x64 (constant S_ .f32 0x00000000#32))

section
variable {y : FVec Ideal S4x256x64x64 .f32} {f : Fin 4 → Fin 256 → Fin 4096 → ℝ}
  (hy : ∀ b o i, y (ix4 b o (row i) (col i)) = ((f b o i : ℝ) : EReal))
include hy

theorem mean256_at (o : Fin 256) : mean256 y (ix4 0 o 0 0) = ((mean (fun b i => f b o i) : ℝ) : EReal) := by
  pointwise [mean256]
  rw [sum_channel]
  simp only [hy, ← coe_sum, bits_n, zero_add]
  rw [div_real _ _ (by norm_num)]
  rfl

theorem var256_at (o : Fin 256) : var256 y (ix4 0 o 0 0) = ((var (fun b i => f b o i) : ℝ) : EReal) := by
  have hm := mean256_at hy
  pointwise [var256, count256]
  rw [sum_channel]
  pointwise
  simp only [hm, hy, ← EReal.coe_sub, ← EReal.coe_mul, ← coe_sum, bits_n, zero_add]
  have hn : ((16384 : ℝ) : EReal) - FloatOps.sitofp (F := Ideal) .f32 (0#32) = ((16384 : ℝ) : EReal) := by
    rw [sitofp_zero, ← EReal.coe_sub, sub_zero]
  rw [hn, if_pos (EReal.coe_pos.2 (by norm_num)), div_real _ _ (by norm_num)]
  rfl

theorem norm256_at {g β : FVec Ideal S256 .f32} {g' β' : Fin 256 → ℝ} (hg : ∀ o, g (ix1 o) = ((g' o : ℝ) : EReal))
    (hβ : ∀ o, β (ix1 o) = ((β' o : ℝ) : EReal)) (b : Fin 4) (o : Fin 256) (i : Fin 4096) :
    norm256 y g β (ix4 b o (row i) (col i)) = ((act g' β' f b o i : ℝ) : EReal) := by
  have hm := mean256_at hy o
  have hv := var256_at hy o
  pointwise [norm256]
  simp only [hm, hv, hy, hg, hβ, bits_eps, ← EReal.coe_add, ← EReal.coe_sub]
  rw [sqrt_real _ (add_nonneg (var_nonneg _) eps_pos.le), div_real _ _ (Real.sqrt_pos.2 (add_pos_of_nonneg_of_pos (var_nonneg _) eps_pos)).ne']
  simp only [← EReal.coe_mul, ← EReal.coe_add, max_real_zero]
  rfl

end

/-! ## The `1 × 1` convolutions -/

/-- From 256 channels to 64. -/
def convWide (w : FVec Ideal S256x64 .f32) (x : FVec Ideal S4x256x64x64 .f32) : FVec Ideal S4x64x64x64 .f32 :=
  transpose S4x64x64x64 [1, 0, 2, 3] (Host.dotGeneral dot_S256x64_S4x256x64x64_S64x4x64x64_0_1_1_023_n_n none w x)
    transposes_S64x4x64x64_S4x64x64x64_1_0_2_3

theorem convWide_at {w : FVec Ideal S256x64 .f32} {x : FVec Ideal S4x256x64x64 .f32} {w' : Fin 256 → Fin 64 → ℝ}
    {f : Fin 4 → Fin 256 → Fin 4096 → ℝ} (hw : ∀ a o, w (ix2 a o) = ((w' a o : ℝ) : EReal))
    (hx : ∀ b a i, x (ix4 b a (row i) (col i)) = ((f b a i : ℝ) : EReal)) (b : Fin 4) (o : Fin 64) (i : Fin 4096) :
    convWide w x (ix4 b o (row i) (col i)) = ((conv w' f b o i : ℝ) : EReal) := by
  pointwise [convWide]
  simp only [hw, hx, ← EReal.coe_mul, ← coe_sum]
  rfl

/-- From 64 channels to 64. -/
def convMid (w : FVec Ideal S64x64 .f32) (x : FVec Ideal S4x64x64x64 .f32) : FVec Ideal S4x64x64x64 .f32 :=
  transpose S4x64x64x64 [1, 0, 2, 3] (Host.dotGeneral dot_S64x64_S4x64x64x64_S64x4x64x64_0_1_1_023_n_n none w x)
    transposes_S64x4x64x64_S4x64x64x64_1_0_2_3

theorem convMid_at {w : FVec Ideal S64x64 .f32} {x : FVec Ideal S4x64x64x64 .f32} {w' : Fin 64 → Fin 64 → ℝ}
    {f : Fin 4 → Fin 64 → Fin 4096 → ℝ} (hw : ∀ a o, w (ix2 a o) = ((w' a o : ℝ) : EReal))
    (hx : ∀ b a i, x (ix4 b a (row i) (col i)) = ((f b a i : ℝ) : EReal)) (b : Fin 4) (o : Fin 64) (i : Fin 4096) :
    convMid w x (ix4 b o (row i) (col i)) = ((conv w' f b o i : ℝ) : EReal) := by
  pointwise [convMid]
  simp only [hw, hx, ← EReal.coe_mul, ← coe_sum]
  rfl

/-- From 64 channels to 256. -/
def convOut (w : FVec Ideal S64x256 .f32) (x : FVec Ideal S4x64x64x64 .f32) : FVec Ideal S4x256x64x64 .f32 :=
  transpose S4x256x64x64 [1, 0, 2, 3] (Host.dotGeneral dot_S64x256_S4x64x64x64_S256x4x64x64_0_1_1_023_n_n none w x)
    transposes_S256x4x64x64_S4x256x64x64_1_0_2_3

theorem convOut_at {w : FVec Ideal S64x256 .f32} {x : FVec Ideal S4x64x64x64 .f32} {w' : Fin 64 → Fin 256 → ℝ}
    {f : Fin 4 → Fin 64 → Fin 4096 → ℝ} (hw : ∀ a o, w (ix2 a o) = ((w' a o : ℝ) : EReal))
    (hx : ∀ b a i, x (ix4 b a (row i) (col i)) = ((f b a i : ℝ) : EReal)) (b : Fin 4) (o : Fin 256) (i : Fin 4096) :
    convOut w x (ix4 b o (row i) (col i)) = ((conv w' f b o i : ℝ) : EReal) := by
  pointwise [convOut]
  simp only [hw, hx, ← EReal.coe_mul, ← coe_sum]
  rfl

end Cert.ReferenceValue

end
-- ==== Proof.Attention.lean ====
/- The reference's attention at real numbers. -/
module

public import proofs.«01_k».proof.Proof.Args
public import proofs.«01_k».proof.Proof.Reals
public import proofs.«01_k».proof.Proof.Gen.ReferenceIdeal.Read

@[expose] public section

set_option maxRecDepth 16384

noncomputable section

namespace Cert.ReferenceValue

open Idealize.ShloMosaic Idealize.ShloMosaic.TcCoe Idealize.SL.Sem Cert.ReferenceIdeal Cert.ReferenceIdeal.Gen Cert.Model

/-- The pixels of an array put in a row. -/
def flat (q : FVec Ideal S4x64x64x64 .f32) : FVec Ideal S4x64x4096 .f32 := shapeCast S4x64x4096 q shapeCasts_S4x64x64x64_S4x64x4096

/-- The products of queries and keys. -/
def products (q k : FVec Ideal S4x64x4096 .f32) : FVec Ideal S4x4096x4096 .f32 :=
  Host.dotGeneral dot_S4x4096x64_S4x64x4096_S4x4096x4096_2_1_1_2_0_0 none
    (transpose S4x4096x64 [0, 2, 1] q transposes_S4x64x4096_S4x4096x64_0_2_1) k

/-- The products scaled. -/
def scores (p : FVec Ideal S4x4096x4096 .f32) : FVec Ideal S4x4096x4096 .f32 :=
  mulf p (broadcastInDim S4x4096x4096 ![] bcast_S_S4x4096x4096 (constant S_ .f32 0x3E000000#32))

/-- The greatest score of each row. -/
def rowMax (s : FVec Ideal S4x4096x4096 .f32) : FVec Ideal S4x4096 .f32 :=
  Host.reduce FloatOps.maximumf s (constant S_ .f32 0xFF800000#32) reducesTo_S4x4096x4096_S4x4096_d2 h_S_

/-- The exponentials of the scores, each row's greatest taken off. -/
def powers (s : FVec Ideal S4x4096x4096 .f32) (m : FVec Ideal S4x4096 .f32) : FVec Ideal S4x4096x4096 .f32 :=
  Host.exp (subf s (broadcastInDim S4x4096x4096 ![0, 1, 2] bcast_S4x4096x1_S4x4096x4096_0_1_2
    (broadcastInDim S4x4096x1 ![0, 1] bcast_S4x4096_S4x4096x1_0_1
      (maximumf (broadcastInDim S4x4096 ![] bcast_S_S4x4096 (constant S_ .f32 0xFF800000#32)) m))))

/-- The rows divided by their sums. -/
def weights (e : FVec Ideal S4x4096x4096 .f32) : FVec Ideal S4x4096x4096 .f32 :=
  Host.divf e (broadcastInDim S4x4096x4096 ![0, 1, 2] bcast_S4x4096x1_S4x4096x4096_0_1_2
    (broadcastInDim S4x4096x1 ![0, 1] bcast_S4x4096_S4x4096x1_0_1
      (Host.reduceAdd e (constant S_ .f32 0x00000000#32) reducesTo_S4x4096x4096_S4x4096_d2 h_S_)))

/-- The values combined by the weights. -/
def combine (p : FVec Ideal S4x4096x4096 .f32) (v : FVec Ideal S4x64x4096 .f32) : FVec Ideal S4x64x4096 .f32 :=
  transpose S4x64x4096 [0, 2, 1] (Host.dotGeneral dot_S4x4096x4096_S4x4096x64_S4x4096x64_2_1_1_2_0_0 none p
      (transpose S4x4096x64 [0, 2, 1] v transposes_S4x64x4096_S4x4096x64_0_2_1))
    transposes_S4x4096x64_S4x64x4096_0_2_1

/-- The pixels of an array put back in the plane. -/
def plane (y : FVec Ideal S4x64x4096 .f32) : FVec Ideal S4x64x64x64 .f32 := shapeCast _ y shapeCasts_S4x64x4096_S4x64x64x64

variable {q k v : FVec Ideal S4x64x64x64 .f32} {q' k' v' : Fin 4 → Fin 64 → Fin 4096 → ℝ}
  (hq : ∀ b t i, q (ix4 b t (row i) (col i)) = ((q' b t i : ℝ) : EReal))
  (hk : ∀ b t i, k (ix4 b t (row i) (col i)) = ((k' b t i : ℝ) : EReal))
  (hv : ∀ b t i, v (ix4 b t (row i) (col i)) = ((v' b t i : ℝ) : EReal))

theorem flat_at {f : Fin 4 → Fin 64 → Fin 4096 → ℝ} {y : FVec Ideal S4x64x64x64 .f32}
    (hy : ∀ b t i, y (ix4 b t (row i) (col i)) = ((f b t i : ℝ) : EReal)) (b : Fin 4) (t : Fin 64) (i : Fin 4096) :
    flat y (ix3 b t i) = ((f b t i : ℝ) : EReal) := by
  pointwise [flat]
  exact hy b t i

theorem plane_at {f : Fin 4 → Fin 64 → Fin 4096 → ℝ} {y : FVec Ideal S4x64x4096 .f32}
    (hy : ∀ b t i, y (ix3 b t i) = ((f b t i : ℝ) : EReal)) (b : Fin 4) (t : Fin 64) (i : Fin 4096) :
    plane y (ix4 b t (row i) (col i)) = ((f b t i : ℝ) : EReal) := by
  have h : ∀ i' : Fin 4096, i'.val = (row i).val * 64 + (col i).val → i' = i := fun i' h => Fin.ext (by
    have h1 : (row i).val = i.val / 64 := rfl
    have h2 : (col i).val = i.val % 64 := rfl
    omega)
  pointwise [plane]
  rw [h ⟨(row i).val * 64 + (col i).val, _⟩ rfl]
  exact hy b t i

theorem products_at {q k : FVec Ideal S4x64x4096 .f32} (hq : ∀ b t i, q (ix3 b t i) = ((q' b t i : ℝ) : EReal))
    (hk : ∀ b t i, k (ix3 b t i) = ((k' b t i : ℝ) : EReal)) (b : Fin 4) (i j : Fin 4096) :
    products q k (ix3 b i j) = ((∑ t, q' b t i * k' b t j : ℝ) : EReal) := by
  pointwise [products]
  simp only [hq, hk, ← EReal.coe_mul, ← coe_sum]

theorem scores_at {p : FVec Ideal S4x4096x4096 .f32}
    (hp : ∀ b i j, p (ix3 b i j) = ((∑ t, q' b t i * k' b t j : ℝ) : EReal)) (b : Fin 4) (i j : Fin 4096) :
    scores p (ix3 b i j) = ((sim q' k' b i j : ℝ) : EReal) := by
  pointwise [scores]
  simp only [hp, bits_eighth, ← EReal.coe_mul, sim]

theorem rowMax_at (s : FVec Ideal S4x4096x4096 .f32) (b : Fin 4) (i : Fin 4096) :
    rowMax s (ix2 b i) = Finset.univ.fold max (Ideal.ofBits .f32 0xFF800000#32) (fun j => s (ix3 b i j)) := by
  pointwise [rowMax]

/-- The greatest score of a row is a real number. -/
theorem rowMax_real {s : FVec Ideal S4x4096x4096 .f32} (b : Fin 4) (i : Fin 4096) {f : Fin 4096 → ℝ}
    (hs : ∀ j, s (ix3 b i j) = ((f j : ℝ) : EReal)) : ∃ m : ℝ, rowMax s (ix2 b i) = ((m : ℝ) : EReal) := by
  obtain ⟨m, hm⟩ := fold_max_real (fun j : Fin 4096 => ((f j : ℝ) : EReal)) (fun j => EReal.coe_ne_top _) 0 (EReal.coe_ne_bot _)
  refine ⟨m, ?_⟩
  rw [rowMax_at, bits_bot, funext hs]
  exact hm

theorem powers_at {s : FVec Ideal S4x4096x4096 .f32} {m : FVec Ideal S4x4096 .f32} {b : Fin 4} {i j : Fin 4096} {x y : ℝ}
    (hs : s (ix3 b i j) = ((x : ℝ) : EReal)) (hm : m (ix2 b i) = ((y : ℝ) : EReal)) :
    powers s m (ix3 b i j) = ((Real.exp (x - y) : ℝ) : EReal) := by
  pointwise [powers]
  simp only [hs, bits_bot, hm, bot_sup_eq, ← EReal.coe_sub, Ideal.exp_coe]

theorem weights_at {e : FVec Ideal S4x4096x4096 .f32} (b : Fin 4) (i : Fin 4096) {m : ℝ}
    (he : ∀ j, e (ix3 b i j) = ((Real.exp (sim q' k' b i j - m) : ℝ) : EReal)) (j : Fin 4096) :
    weights e (ix3 b i j) = ((att q' k' b i j : ℝ) : EReal) := by
  pointwise [weights]
  simp only [he, zero_add, ← coe_sum]
  rw [div_real _ _ (exp_sum_pos _).ne', att_shift]

theorem combine_at {p : FVec Ideal S4x4096x4096 .f32} {v : FVec Ideal S4x64x4096 .f32}
    (hp : ∀ b i j, p (ix3 b i j) = ((att q' k' b i j : ℝ) : EReal)) (hv : ∀ b t i, v (ix3 b t i) = ((v' b t i : ℝ) : EReal))
    (b : Fin 4) (t : Fin 64) (i : Fin 4096) : combine p v (ix3 b t i) = ((mix q' k' v' b t i : ℝ) : EReal) := by
  pointwise [combine]
  simp only [hv, hp, ← EReal.coe_mul, ← coe_sum]
  unfold mix
  simp only [mul_comm]

/-- The reference's attention: the values combined by the softmax of the scaled products. -/
def attend (q k v : FVec Ideal S4x64x64x64 .f32) : FVec Ideal S4x64x64x64 .f32 :=
  plane (combine (weights (powers (scores (products (flat q) (flat k))) (rowMax (scores (products (flat q) (flat k)))))) (flat v))

include hq hk hv in
/-- The attention read at a pixel. -/
theorem attend_at (b : Fin 4) (t : Fin 64) (i : Fin 4096) :
    attend q k v (ix4 b t (row i) (col i)) = ((mix q' k' v' b t i : ℝ) : EReal) := by
  refine plane_at (combine_at (fun b i j => ?_) (flat_at hv)) b t i
  have hs := scores_at (products_at (flat_at hq) (flat_at hk))
  obtain ⟨m, hm⟩ := rowMax_real b i (hs b i)
  exact weights_at b i (fun j => powers_at (hs b i j) hm) j

end Cert.ReferenceValue

end
-- ==== Proof.RefClass.lean ====
/- The reference's class of a pixel: the first of its greatest logits. -/
module

public import proofs.«01_k».proof.Proof.Args
public import proofs.«01_k».proof.Proof.Reals
public import proofs.«01_k».proof.Proof.Gen.ReferenceIdeal.Read

@[expose] public section

set_option maxRecDepth 16384

noncomputable section

namespace Cert.ReferenceValue

open Idealize.ShloMosaic Idealize.ShloMosaic.TcCoe Idealize.SL.Sem Cert.ReferenceIdeal Cert.ReferenceIdeal.Gen Cert.Model

/-- What a stable descending sort of an increasing list puts first: no member's value is greater, and those before it are less. -/
theorem head_stableSort (f : Fin 150 → ℝ) (R : Fin 150 → Fin 150 → Bool) (hR : ∀ a b, R a b = true ↔ f b < f a) (l : List (Fin 150))
    (hl : l.Pairwise (· < ·)) : ∀ h t, stableSort R l = h :: t → h ∈ l ∧ ∀ c ∈ l, f c ≤ f h ∧ (c < h → f c < f h) := by
  induction l with
  | nil => intro h t e; cases e
  | cons a l ih =>
    intro h t e
    obtain ⟨ha, hl'⟩ := List.pairwise_cons.1 hl
    unfold stableSort at e
    cases hs : stableSort R l with
    | nil =>
      have hn : l = [] := List.eq_nil_of_length_eq_zero (by rw [← length_stableSort R l, hs]; rfl)
      rw [hs] at e
      obtain ⟨rfl, -⟩ := List.cons.inj e
      subst hn
      refine ⟨List.mem_cons_self, fun c hc => ?_⟩
      rcases List.mem_cons.1 hc with rfl | hc
      · exact ⟨le_rfl, fun h => absurd h (lt_irrefl _)⟩
      · cases hc
    | cons h' t' =>
      obtain ⟨hm, hg⟩ := ih hl' h' t' hs
      rw [hs] at e
      unfold insertBefore at e
      by_cases hb : R h' a = true
      · rw [if_pos hb] at e
        obtain ⟨rfl, -⟩ := List.cons.inj e
        have hlt := (hR _ _).1 hb
        refine ⟨List.mem_cons_of_mem _ hm, fun c hc => ?_⟩
        rcases List.mem_cons.1 hc with rfl | hc
        · exact ⟨hlt.le, fun _ => hlt⟩
        · exact hg c hc
      · rw [if_neg hb] at e
        obtain ⟨rfl, -⟩ := List.cons.inj e
        have hle : f h' ≤ f a := not_lt.1 fun h => hb ((hR _ _).2 h)
        refine ⟨List.mem_cons_self, fun c hc => ?_⟩
        rcases List.mem_cons.1 hc with rfl | hc
        · exact ⟨le_rfl, fun h => absurd h (lt_irrefl _)⟩
        · exact ⟨(hg c hc).1.trans hle, fun h => absurd (ha c hc) (lt_asymm h)⟩

/-- The place a stable descending sort takes its first element from is the first of the greatest. -/
theorem sortedFrom_isSeg (f : Fin 150 → ℝ) (R : Fin 150 → Fin 150 → Bool) (hR : ∀ a b, R a b = true ↔ f b < f a) :
    IsSeg f (sortedFrom R 0) := by
  have hlen := length_sortPositions 150 R
  obtain ⟨h, t, e⟩ : ∃ h t, sortPositions 150 R = h :: t := by
    cases hs : sortPositions 150 R with
    | nil => rw [hs] at hlen; cases hlen
    | cons h t => exact ⟨h, t, rfl⟩
  have hh : sortedFrom R 0 = h := by
    unfold sortedFrom
    simp only [List.get_eq_getElem, Fin.val_cast, Fin.val_zero, e, List.getElem_cons_zero]
  rw [hh]
  obtain ⟨-, hg⟩ := head_stableSort f R hR (List.finRange 150) (List.pairwise_lt_finRange 150) h t e
  exact ⟨fun j => (hg j (List.mem_finRange j)).1, fun j hj => (hg j (List.mem_finRange j)).2 hj⟩

theorem along_ix3 (b : Fin 4) (i : Fin 4096) (k k' : Fin 150) (h : 2 < S4x4096x150.rank) :
    (ix3 b i k : S4x4096x150.Idx).along ⟨2, h⟩ k' = ix3 b i k' := by
  funext a
  unfold Shape.Idx.along
  match a with
  | ⟨0, _⟩ => rfl
  | ⟨1, _⟩ => rfl
  | ⟨2, _⟩ => rfl

/-- A sort of two arrays along the last axis, the second read in the first place. -/
theorem sort2_first {α β : Type} (cmp : α × β → α × β → BitVec 1) (x : S4x4096x150.Idx → α) (y : S4x4096x150.Idx → β) (b : Fin 4)
    (i : Fin 4096) : (Host.sort2 S4x4096x150 2 cmp x y).2 (ix3 b i 0)
      = y (ix3 b i (sortedFrom (fun k k' => cmp (x (ix3 b i k), y (ix3 b i k)) (x (ix3 b i k'), y (ix3 b i k')) == 1#1) (0 : Fin 150))) := by
  have hr : (2 : ℕ) < S4x4096x150.rank := by decide
  unfold Host.sort2
  rw [dif_pos hr]
  have e : (fun k : Fin 150 => (ix3 b i 0 : S4x4096x150.Idx).along ⟨2, hr⟩ k) = fun k => ix3 b i k :=
    funext fun k => along_ix3 b i 0 k hr
  exact congrArg (fun g : Fin 150 → S4x4096x150.Idx =>
    y (g (sortedFrom (fun k k' => cmp (x (g k), y (g k)) (x (g k'), y (g k')) == 1#1) (0 : Fin 150)))) e

theorem topK_first {α : Type} (gt : α → α → BitVec 1) (x : S4x4096x150.Idx → α) (b : Fin 4) (i : Fin 4096) :
    (Host.topK S4x4096x1 2 gt x sliceFits_S4x4096x150_S4x4096x1).2 (ix3 b i 0)
      = BitVec.ofNat 32 (sortedFrom (fun k k' => gt (x (ix3 b i k)) (x (ix3 b i k')) == 1#1) (0 : Fin 150)).val := by
  unfold Host.topK
  pointwise
  rw [sort2_first]
  rfl

variable {L : Fin 4 → Fin 150 → Fin 4096 → ℝ}

/-- The greatest logit's place, as the reference takes it. -/
theorem place_at {x : FVec Ideal S4x4096x150 .f32} (hx : ∀ b i k, x (ix3 b i k) = ((L b k i : ℝ) : EReal)) (b : Fin 4) (i : Fin 4096) :
    (Host.topK S4x4096x1 2 (FloatOps.cmpfTotal .gt) x sliceFits_S4x4096x150_S4x4096x1).2 (ix3 b i 0)
      = BitVec.ofNat 32 (seg L b i).val := by
  rw [topK_first]
  have h : ∀ k k' : Fin 150,
      (FloatOps.cmpfTotal (F := Ideal) (φ := .f32) .gt (x (ix3 b i k)) (x (ix3 b i k')) == 1#1) = true ↔ L b k' i < L b k i := by
    intro k k'
    rw [hx, hx, Ideal.cmpfTotal_def]
    show (BitVec.ofBool (decide (((L b k' i : ℝ) : EReal) < ((L b k i : ℝ) : EReal))) == 1#1) = true ↔ _
    by_cases h : L b k' i < L b k i <;> simp [EReal.coe_lt_coe_iff, h]
  exact congrArg (fun k : Fin 150 => BitVec.ofNat 32 k.val)
    (isSeg_unique (sortedFrom_isSeg (fun k => L b k i) _ h) (seg_spec L b i))

end Cert.ReferenceValue

end
-- ==== Proof.Scatter.lean ====
/- The reference's gathers and accumulating scatters by a column of row numbers. -/
module

public import proofs.«01_k».proof.Proof.Args
public import proofs.«01_k».proof.Proof.Reals
public import proofs.«01_k».proof.Proof.Gen.ReferenceIdeal.Read
public import Idealize.ShloMosaic.Lib.Routing.Ops
public import Idealize.ShloMosaic.Lib.Routing.OpsPair

@[expose] public section

set_option maxRecDepth 16384

noncomputable section

namespace Cert.ReferenceValue

open Idealize.ShloMosaic Idealize.ShloMosaic.TcCoe Idealize.SL.Sem Cert.ReferenceIdeal Cert.ReferenceIdeal.Gen Cert.Model

/-- The row of a class of a batch in a table of all classes of all batches. -/
def bin (b : Fin 4) (k : Fin 150) : Fin 600 := ⟨150 * b.val + k.val, by omega⟩

/-- The place of a pixel of a batch in a row of all pixels of all batches. -/
def place (b : Fin 4) (i : Fin 4096) : Fin 16384 := ⟨4096 * b.val + i.val, by omega⟩

theorem bin_eq (b b' : Fin 4) (k k' : Fin 150) : bin b k = bin b' k' ↔ b = b' ∧ k = k' := by
  unfold bin
  rw [Fin.mk.injEq, Fin.ext_iff, Fin.ext_iff]
  omega

/-- A sum over all places is a sum over batches and pixels. -/
theorem sum_place (f : Fin 16384 → ℝ) : ∑ n, f n = ∑ b, ∑ i, f (place b i) := by
  rw [← Fintype.sum_prod_type']
  refine (Equiv.sum_comp (finProdFinEquiv : Fin 4 × Fin 4096 ≃ Fin 16384) f).symm.trans (Finset.sum_congr rfl fun x _ => congrArg f (Fin.ext ?_))
  show x.2.val + 4096 * x.1.val = 4096 * x.1.val + x.2.val
  omega

/-- A sum over the places of one row of the table is a sum over the pixels of one class. -/
theorem sum_bin (g : Fin 16384 → Fin 600) (L : Fin 4 → Fin 150 → Fin 4096 → ℝ) (hg : ∀ b i, g (place b i) = bin b (seg L b i))
    (f : Fin 16384 → ℝ) (b : Fin 4) (k : Fin 150) :
    (∑ n, if g n = bin b k then f n else 0) = ∑ i, if seg L b i = k then f (place b i) else 0 := by
  rw [sum_place, Finset.sum_eq_single b]
  · simp only [hg, bin_eq, true_and]
  · intro b' _ hb
    refine Finset.sum_eq_zero fun i _ => if_neg ?_
    rw [hg, bin_eq]
    exact fun h => hb h.1
  · exact fun h => absurd (Finset.mem_univ b) h

theorem toInt_row (g : Fin 600) : (BitVec.ofNat 32 g.val).toInt = (g.val : ℤ) := by
  rw [BitVec.toInt_eq_toNat_of_lt (by rw [BitVec.toNat_ofNat]; omega), BitVec.toNat_ofNat]
  congr 1
  omega

variable {idx : IVec S16384x1 32} {g : Fin 16384 → Fin 600} (hidx : ∀ n, idx (ix2 n 0) = BitVec.ofNat 32 (g n).val)

include hidx in
theorem lands_vec (n : Fin 16384) (c : Fin 600) :
    scatter_S600_S16384x1_S16384_n_0_0_1.resultIdx? (ix1 n) idx = some (ix1 c) ↔ g n = c := by
  have h0 : scatter_S600_S16384x1_S16384_n_0_0_1.start (ix1 n) idx 0 = (idx (ix2 n 0)).toInt := by
    refine congrArg (fun j : S16384x1.Idx => (idx j).toInt) (?_ : scatter_S600_S16384x1_S16384_n_0_0_1.siIdx (ix1 n) ⟨0, by decide⟩ = ix2 n 0)
    funext a
    match a with
    | ⟨0, _⟩ => rfl
    | ⟨1, _⟩ => rfl
  have h1 : scatter_S600_S16384x1_S16384_n_0_0_1.window (ix1 n) 0 = 0 := rfl
  rw [Routing.resultIdx?_eq_some]
  constructor
  · intro h
    have := h 0
    rw [h0, h1, hidx, toInt_row] at this
    exact Fin.ext (by simpa using this)
  · rintro rfl a
    obtain rfl : a = 0 := Subsingleton.elim _ _
    rw [h0, h1, hidx, toInt_row]
    simp

include hidx in
theorem lands_mat (n : Fin 16384) (t : Fin 256) (c : Fin 600) (t' : Fin 256) :
    scatter_S600x256_S16384x1_S16384x256_1_0_0_1.resultIdx? (ix2 n t) idx = some (ix2 c t') ↔ g n = c ∧ t = t' := by
  have h0 : scatter_S600x256_S16384x1_S16384x256_1_0_0_1.start (ix2 n t) idx 0 = (idx (ix2 n 0)).toInt := by
    refine congrArg (fun j : S16384x1.Idx => (idx j).toInt) (?_ : scatter_S600x256_S16384x1_S16384x256_1_0_0_1.siIdx (ix2 n t) ⟨0, by decide⟩ = ix2 n 0)
    funext a
    match a with
    | ⟨0, _⟩ => rfl
    | ⟨1, _⟩ => rfl
  have h1 : scatter_S600x256_S16384x1_S16384x256_1_0_0_1.window (ix2 n t) 0 = 0 := rfl
  have h2 : scatter_S600x256_S16384x1_S16384x256_1_0_0_1.start (ix2 n t) idx 1 = 0 := rfl
  have h3 : scatter_S600x256_S16384x1_S16384x256_1_0_0_1.window (ix2 n t) 1 = t.val := rfl
  rw [Routing.resultIdx?_eq_some]
  constructor
  · intro h
    have e0 := h 0
    have e1 := h 1
    rw [h0, h1, hidx, toInt_row] at e0
    rw [h2, h3] at e1
    exact ⟨Fin.ext (by simpa using e0), Fin.ext (by simpa using e1)⟩
  · rintro ⟨rfl, rfl⟩ a
    match a with
    | ⟨0, _⟩ =>
      show scatter_S600x256_S16384x1_S16384x256_1_0_0_1.start (ix2 n t) idx 0 + (scatter_S600x256_S16384x1_S16384x256_1_0_0_1.window (ix2 n t) 0 : ℤ) = ((g n).val : ℤ)
      rw [h0, h1, hidx, toInt_row]
      simp
    | ⟨1, _⟩ =>
      show scatter_S600x256_S16384x1_S16384x256_1_0_0_1.start (ix2 n t) idx 1 + (scatter_S600x256_S16384x1_S16384x256_1_0_0_1.window (ix2 n t) 1 : ℤ) = (t.val : ℤ)
      rw [h2, h3]
      simp

include hidx in
/-- A scatter of numbers into a vector adds to each place the numbers sent there. -/
theorem scatter_vec (z : FVec Ideal S600 .f32) (u : FVec Ideal S16384 .f32) (c : Fin 600) :
    Host.scatterAdd scatter_S600_S16384x1_S16384_n_0_0_1 z idx u (ix1 c) = z (ix1 c) + ∑ n, if g n = c then u (ix1 n) else 0 := by
  unfold Host.scatterAdd
  rw [Ideal.hostScatterAdd_def]
  unfold Ideal.hostScatterAdd
  rw [Finset.sum_filter]
  refine congrArg (z (ix1 c) + ·) ?_
  refine (Fintype.sum_bijective (fun n : Fin 16384 => (ix1 n : S16384.Idx)) ⟨fun a b h => congrFun h 0, fun j => ⟨j 0, ?_⟩⟩ _ _ fun n => ?_).symm
  · funext a
    match a with
    | ⟨0, _⟩ => rfl
  · exact (if_congr (lands_vec hidx n c) rfl rfl).symm

include hidx in
/-- A scatter of rows into a table adds to each row the rows sent there. -/
theorem scatter_mat (z : FVec Ideal S600x256 .f32) (u : FVec Ideal S16384x256 .f32) (c : Fin 600) (t : Fin 256) :
    Host.scatterAdd scatter_S600x256_S16384x1_S16384x256_1_0_0_1 z idx u (ix2 c t)
      = z (ix2 c t) + ∑ n, if g n = c then u (ix2 n t) else 0 := by
  unfold Host.scatterAdd
  rw [Ideal.hostScatterAdd_def]
  unfold Ideal.hostScatterAdd
  rw [Finset.sum_filter]
  refine congrArg (z (ix2 c t) + ·) ?_
  refine (Fintype.sum_bijective (fun x : Fin 16384 × Fin 256 => (ix2 x.1 x.2 : S16384x256.Idx))
    ⟨fun a b h => Prod.ext (congrFun h 0) (congrFun h 1), fun j => ⟨(j 0, j 1), ?_⟩⟩
    (fun x => if g x.1 = c ∧ x.2 = t then u (ix2 x.1 x.2) else 0) _ fun x => ?_).symm.trans ?_
  · funext a
    match a with
    | ⟨0, _⟩ => rfl
    | ⟨1, _⟩ => rfl
  · exact (if_congr (lands_mat hidx x.1 x.2 c t) rfl rfl).symm
  · rw [Fintype.sum_prod_type]
    refine Finset.sum_congr rfl fun n _ => ?_
    rw [Finset.sum_eq_single t]
    · simp only [and_true]
    · exact fun t' _ h => if_neg fun e => h e.2
    · exact fun h => absurd (Finset.mem_univ t) h

include hidx in
/-- A gather from a vector reads the place named. -/
theorem gather_vec (x : FVec Ideal S600 .f32) (n : Fin 16384) :
    Host.gather gather_S600_S16384x1_S16384_n_0_n_n_0_1_1 x idx (ix1 n) = x (ix1 (g n)) := by
  have h := StableHlo.Predicate.gather_take gather_S600_S16384x1_S16384_n_0_n_n_0_1_1 rfl rfl rfl rfl x idx n (by decide)
  have e1 : (Shape.Idx.ofFin n : S16384.Idx) = ix1 n := Routing.ofFin_eq_ix1 n
  rw [e1] at h
  rw [h]
  refine congrArg x (funext fun a => Fin.ext ?_)
  have e2 : idx (StableHlo.Predicate.ixP n) = BitVec.ofNat 32 (g n).val := (congrArg idx (funext fun a => by
    match a with
    | ⟨0, _⟩ => rfl
    | ⟨1, _⟩ => rfl)).trans (hidx n)
  match a with
  | ⟨0, _⟩ =>
    show min (idx (StableHlo.Predicate.ixP n)).toInt.toNat (600 - 1) = (g n).val
    rw [e2, toInt_row]
    omega

include hidx in
/-- A gather from a table reads the row named. -/
theorem gather_mat (x : FVec Ideal S600x256 .f32) (n : Fin 16384) (t : Fin 256) :
    Host.gather gather_S600x256_S16384x1_S16384x256_1_0_n_n_0_1_1256 x idx (ix2 n t) = x (ix2 (g n) t) :=
  Routing.gather_row gather_S600x256_S16384x1_S16384x256_1_0_n_n_0_1_1256 rfl rfl rfl rfl rfl x idx n t (g n) (hidx n) (by decide)

end Cert.ReferenceValue

end
-- ==== Proof.RefGather.lean ====
/- The reference's features of a pixel: its class's mean of the features, weighted by the softmax over the class's pixels. -/
module

public import proofs.«01_k».proof.Proof.RefClass
public import proofs.«01_k».proof.Proof.Scatter

@[expose] public section

set_option maxRecDepth 16384

noncomputable section

namespace Cert.ReferenceValue

open Idealize.ShloMosaic Idealize.ShloMosaic.TcCoe Idealize.SL.Sem Cert.ReferenceIdeal Cert.ReferenceIdeal.Gen Cert.ReferenceIdeal.Read
  Cert.Model

/-- The batch of a place. -/
def batch (n : Fin 16384) : Fin 4 := ⟨n.val / 4096, by omega⟩

/-- The pixel of a place. -/
def pix (n : Fin 16384) : Fin 4096 := ⟨n.val % 4096, by omega⟩

theorem batch_place (b : Fin 4) (i : Fin 4096) : batch (place b i) = b :=
  Fin.ext (show (4096 * b.val + i.val) / 4096 = b.val by omega)

theorem pix_place (b : Fin 4) (i : Fin 4096) : pix (place b i) = i :=
  Fin.ext (show (4096 * b.val + i.val) % 4096 = i.val by omega)

/-- The row of a place's class in the table of all classes. -/
def own (L : Fin 4 → Fin 150 → Fin 4096 → ℝ) (n : Fin 16384) : Fin 600 := bin (batch n) (seg L (batch n) (pix n))

theorem own_place (L : Fin 4 → Fin 150 → Fin 4096 → ℝ) (b : Fin 4) (i : Fin 4096) : own L (place b i) = bin b (seg L b i) := by
  unfold own
  rw [batch_place, pix_place]

theorem sum_ite_real {n : ℕ} (p : Fin n → Prop) [DecidablePred p] (f : Fin n → ℝ) :
    (∑ j, if p j then ((f j : ℝ) : EReal) else 0) = ((∑ j, if p j then f j else 0 : ℝ) : EReal) := by
  rw [coe_sum]
  refine Finset.sum_congr rfl fun j _ => ?_
  split
  · rfl
  · exact EReal.coe_zero.symm

variable {L : Fin 4 → Fin 150 → Fin 4096 → ℝ} {X : Fin 4 → Fin 256 → Fin 4096 → ℝ}
  {x0 : FVec Ideal S4x256x64x64 .f32} {x1 : FVec Ideal S4x150x64x64 .f32}
  (hx : ∀ b c i, x0 (ix4 b c (row i) (col i)) = ((X b c i : ℝ) : EReal))
  (hl : ∀ b k i, x1 (ix4 b k (row i) (col i)) = ((L b k i : ℝ) : EReal))

include hl in
theorem logit_at (b : Fin 4) (i : Fin 4096) (k : Fin 150) : val_main_v3 (F := Ideal) x1 (ix3 b i k) = ((L b k i : ℝ) : EReal) := by
  pointwise [val_main_v3, val_main_v2]
  exact hl b k i

include hl in
theorem class_at (b : Fin 4) (i : Fin 4096) : val_main_v4 (F := Ideal) x1 (ix2 b i) = BitVec.ofNat 32 (seg L b i).val := by
  pointwise [val_main_v4]
  exact place_at (logit_at hl) b i

theorem top_fold (b : Fin 4) (i : Fin 4096) : val_main_v5 (F := Ideal) x1 (ix2 b i)
    = Finset.univ.fold max (Ideal.ofBits .f32 0xFF800000#32) (fun k : Fin 150 => val_main_v3 (F := Ideal) x1 (ix3 b i k)) := by
  pointwise [val_main_v5, val_main_cst]

include hl in
theorem top_at (b : Fin 4) (i : Fin 4096) : val_main_v5 (F := Ideal) x1 (ix2 b i) = ((top L b i : ℝ) : EReal) := by
  rw [top_fold, bits_bot, funext fun k => logit_at hl b i k]
  exact fold_top L b i

include hl in
theorem id_at (b : Fin 4) (i : Fin 4096) : val_main_v20 (F := Ideal) x1 (ix2 b i) = BitVec.ofNat 32 (bin b (seg L b i)).val := by
  pointwise [val_main_v20, val_main_v19, val_main_v18, val_main_v17, val_main_c, val_main_v16, val_main_v15]
  rw [class_at hl]
  have h : (bin b (seg L b i)).val = (seg L b i).val + 150 * b.val := Nat.add_comm _ _
  rw [h, BitVec.ofNat_add, BitVec.ofNat_mul]
  rfl

include hl in
theorem id_place (n : Fin 16384) : val_main_v21 (F := Ideal) x1 (ix1 n) = BitVec.ofNat 32 (own L n).val := by
  pointwise [val_main_v21]
  exact id_at hl (batch n) (pix n)

theorem wrap_row (g : Fin 600) (a : BitVec 32) :
    Scalar.select (IntOp.cmpi .slt (BitVec.ofNat 32 g.val) 0#32) a (BitVec.ofNat 32 g.val) = BitVec.ofNat 32 g.val :=
  Routing.wrap_of_lt _ _ (by rw [BitVec.toNat_ofNat]; omega)

include hl in
theorem column34 (n : Fin 16384) : val_main_v34 (F := Ideal) x1 (ix2 n 0) = BitVec.ofNat 32 (own L n).val := by
  pointwise [val_main_v34]
  exact id_place hl n

include hl in
theorem column49 (n : Fin 16384) : val_main_v49 (F := Ideal) x1 (ix2 n 0) = BitVec.ofNat 32 (own L n).val := by
  pointwise [val_main_v49]
  exact id_place hl n

include hl in
theorem column29 (n : Fin 16384) : val_main_v29 (F := Ideal) x1 (ix2 n 0) = BitVec.ofNat 32 (own L n).val := by
  pointwise [val_main_v29, val_main_v28, val_main_v25, val_main_v24, val_main_c_2]
  rw [id_place hl]
  exact wrap_row _ _

include hl in
theorem column41 (n : Fin 16384) : val_main_v41 (F := Ideal) x1 (ix2 n 0) = BitVec.ofNat 32 (own L n).val := by
  pointwise [val_main_v41, val_main_v40, val_main_v37, val_main_v36, val_main_c_5]
  rw [id_place hl]
  exact wrap_row _ _

include hl in
theorem column56 (n : Fin 16384) : val_main_v56 (F := Ideal) x1 (ix2 n 0) = BitVec.ofNat 32 (own L n).val := by
  pointwise [val_main_v56, val_main_v55, val_main_v52, val_main_v51, val_main_c_8]
  rw [id_place hl]
  exact wrap_row _ _

include hl in
theorem masked_at (b : Fin 4) (i : Fin 4096) (k : Fin 150) :
    val_main_v13 (F := Ideal) x1 (ix3 b i k) = if seg L b i = k then ((top L b i : ℝ) : EReal) else ⊥ := by
  pointwise [val_main_v13, val_main_v11, val_main_v9, val_main_v6, val_main_v10, val_main_v8, val_main_v7, val_main_call0_v1,
    val_main_v12, val_main_call0_v2, val_main_call0_v0, val_main_cst_0, id]
  rw [class_at hl, top_at hl]
  have h : IntOp.cmpi .eq (BitVec.ofNat 32 (seg L b i).val) (BitVec.ofNat 32 k.val) = BitVec.ofBool (decide (seg L b i = k)) := by
    show BitVec.ofBool (decide (BitVec.ofNat 32 (seg L b i).val = BitVec.ofNat 32 k.val)) = _
    refine congrArg BitVec.ofBool (decide_eq_decide.2 ⟨fun h => Fin.ext ?_, fun h => by rw [h]⟩)
    have := congrArg BitVec.toNat h
    rw [BitVec.toNat_ofNat, BitVec.toNat_ofNat] at this
    omega
  rw [h, select_ofBool, bits_bot]

theorem classMax_fold (b : Fin 4) (k : Fin 150) : val_main_v14 (F := Ideal) x1 (ix2 b k)
    = Finset.univ.fold max (Ideal.ofBits .f32 0xFF800000#32) (fun i : Fin 4096 => val_main_v13 (F := Ideal) x1 (ix3 b i k)) := by
  pointwise [val_main_v14, val_main_cst_1]

include hl in
/-- The greatest of a class's greatest logits is a real number where the class has a pixel. -/
theorem classMax_real : ∃ M : Fin 4 → Fin 150 → ℝ, ∀ b i,
    val_main_v14 (F := Ideal) x1 (ix2 b (seg L b i)) = ((M b (seg L b i) : ℝ) : EReal) := by
  refine ⟨fun b k => (val_main_v14 (F := Ideal) x1 (ix2 b k)).toReal, fun b i => ?_⟩
  obtain ⟨m, hm⟩ := fold_max_real (fun j => if seg L b j = seg L b i then ((top L b j : ℝ) : EReal) else ⊥)
    (fun j => by split <;> simp) i (by simp)
  have e : val_main_v14 (F := Ideal) x1 (ix2 b (seg L b i)) = ((m : ℝ) : EReal) := by
    rw [classMax_fold, bits_bot, funext fun j => masked_at hl b j (seg L b i)]
    exact hm
  rw [e]
  exact (congrArg (fun x : EReal => ((x.toReal : ℝ) : EReal)) e).symm

theorem table_at (b : Fin 4) (k : Fin 150) : val_main_v23 (F := Ideal) x1 (ix1 (bin b k)) = val_main_v14 (F := Ideal) x1 (ix2 b k) := by
  have h : ∀ c : Fin 600, val_main_v23 (F := Ideal) x1 (ix1 c)
      = val_main_v14 (F := Ideal) x1 (ix2 ⟨c.val / 150, by omega⟩ ⟨c.val % 150, by omega⟩) := by
    intro c
    pointwise [val_main_v23]
  rw [h]
  have h1 : (⟨(bin b k).val / 150, by omega⟩ : Fin 4) = b := Fin.ext (show (150 * b.val + k.val) / 150 = b.val by omega)
  have h2 : (⟨(bin b k).val % 150, by omega⟩ : Fin 150) = k := Fin.ext (show (150 * b.val + k.val) % 150 = k.val by omega)
  rw [h1, h2]

theorem exp_less {n : Fin 16384} {x y : ℝ} (h22 : val_main_v22 (F := Ideal) x1 (ix1 n) = (x : EReal))
    (h30 : val_main_v30 (F := Ideal) x1 (ix1 n) = (y : EReal)) :
    val_main_v32 (F := Ideal) x1 (ix1 n) = ((Real.exp (x - y) : ℝ) : EReal) := by
  rw [val_main_v32_apply, val_main_v31_apply, h22, h30]
  show Ideal.exp ((x : EReal) - (y : EReal)) = _
  rw [← EReal.coe_sub, Ideal.exp_coe]

variable {M : Fin 4 → Fin 150 → ℝ}
  (hM : ∀ b i, val_main_v14 (F := Ideal) x1 (ix2 b (seg L b i)) = ((M b (seg L b i) : ℝ) : EReal))

include hl hM in
theorem power_at (n : Fin 16384) : val_main_v32 (F := Ideal) x1 (ix1 n)
    = ((Real.exp (top L (batch n) (pix n) - M (batch n) (seg L (batch n) (pix n))) : ℝ) : EReal) := by
  have h22 : val_main_v22 (F := Ideal) x1 (ix1 n) = ((top L (batch n) (pix n) : ℝ) : EReal) := by
    pointwise [val_main_v22]
    exact top_at hl (batch n) (pix n)
  have h30 : val_main_v30 (F := Ideal) x1 (ix1 n) = ((M (batch n) (seg L (batch n) (pix n)) : ℝ) : EReal) := by
    unfold val_main_v30
    rw [gather_vec (column29 hl)]
    unfold own
    rw [table_at, hM]
  exact exp_less h22 h30

include hl hM in
theorem total_at (b : Fin 4) (k : Fin 150) : val_main_v35 (F := Ideal) x1 (ix1 (bin b k))
    = ((∑ i, if seg L b i = k then Real.exp (top L b i - M b (seg L b i)) else 0 : ℝ) : EReal) := by
  unfold val_main_v35
  rw [scatter_vec (column34 hl)]
  simp only [power_at hl hM]
  rw [sum_ite_real, sum_bin (own L) L (own_place L)]
  simp only [batch_place, pix_place]
  pointwise [val_main_v33, val_main_cst_4]

include hl hM in
theorem weight_at (n : Fin 16384) : val_main_v43 (F := Ideal) x1 (ix1 n) = ((wgt L (batch n) (pix n) : ℝ) : EReal) := by
  have h42 : val_main_v42 (F := Ideal) x1 (ix1 n) = ((∑ i, if seg L (batch n) i = seg L (batch n) (pix n) then
      Real.exp (top L (batch n) i - M (batch n) (seg L (batch n) i)) else 0 : ℝ) : EReal) := by
    unfold val_main_v42
    rw [gather_vec (column41 hl)]
    exact total_at hl hM _ _
  pointwise [val_main_v43]
  rw [power_at hl hM, h42, div_real _ _ (shift_pos L _ _ (M _)).ne', wgt_shift]

include hx hl hM in
theorem weighted_at (n : Fin 16384) (c : Fin 256) : val_main_v47 (F := Ideal) x0 x1 (ix2 n c)
    = ((X (batch n) c (pix n) * wgt L (batch n) (pix n) : ℝ) : EReal) := by
  have h1 : ∀ b i, val_main_v1 (F := Ideal) x0 (ix3 b i c) = ((X b c i : ℝ) : EReal) := fun b i => by
    pointwise [val_main_v1, val_main_v0]
    exact hx b c i
  have h44 : val_main_v44 (F := Ideal) x0 (ix2 n c) = ((X (batch n) c (pix n) : ℝ) : EReal) := by
    pointwise [val_main_v44]
    exact h1 (batch n) (pix n)
  pointwise [val_main_v47, val_main_v46, val_main_v45]
  rw [h44, weight_at hl hM, ← EReal.coe_mul]

include hx hl hM in
theorem mean_at (b : Fin 4) (k : Fin 150) (c : Fin 256) : val_main_v50 (F := Ideal) x0 x1 (ix2 (bin b k) c)
    = ((ctx L X b c k : ℝ) : EReal) := by
  unfold val_main_v50
  rw [scatter_mat (column49 hl)]
  simp only [weighted_at hx hl hM]
  rw [sum_ite_real, sum_bin (own L) L (own_place L)]
  simp only [batch_place, pix_place]
  pointwise [val_main_v48, val_main_cst_7]
  rfl

include hx hl in
/-- The gathered features read at a pixel. -/
theorem gathered_at (b : Fin 4) (c : Fin 256) (i : Fin 4096) :
    val_main_v59 (F := Ideal) x0 x1 (ix4 b c (row i) (col i)) = ((feat L X b c i : ℝ) : EReal) := by
  obtain ⟨M, hM⟩ := classMax_real hl
  have h57 : ∀ n, val_main_v57 (F := Ideal) x0 x1 (ix2 n c) = ((feat L X (batch n) c (pix n) : ℝ) : EReal) := fun n => by
    unfold val_main_v57
    rw [gather_mat (column56 hl)]
    exact mean_at hx hl hM _ _ _
  have hn : ∀ n : Fin 16384, n.val = b.val * 4096 + (row i).val * 64 + (col i).val → n = place b i := fun n h => Fin.ext (by
    have h1 : (row i).val = i.val / 64 := rfl
    have h2 : (col i).val = i.val % 64 := rfl
    have h3 : (place b i).val = 4096 * b.val + i.val := rfl
    omega)
  pointwise [val_main_v59, val_main_v58]
  rw [hn ⟨b.val * 4096 + (row i).val * 64 + (col i).val, _⟩ rfl, h57, batch_place, pix_place]

end Cert.ReferenceValue

end
-- ==== Proof.RefValue.lean ====
/- The reference's result at real numbers. -/
module

public import proofs.«01_k».proof.Proof.Layers
public import proofs.«01_k».proof.Proof.Attention
public import proofs.«01_k».proof.Proof.RefGather

@[expose] public section

set_option maxRecDepth 16384

noncomputable section

namespace Cert.ReferenceValue

open Idealize.ShloMosaic Idealize.ShloMosaic.TcCoe Idealize.SL.Sem Cert.ReferenceIdeal Cert.ReferenceIdeal.Gen Cert.ReferenceIdeal.Read
  Cert.Model

variable {A : Args} {x0 : FVec Ideal S4x256x64x64 .f32} {x1 : FVec Ideal S4x150x64x64 .f32}
  {x3 : FVec Ideal S256x64 .f32} {x4 x5 : FVec Ideal S64 .f32} {x6 : FVec Ideal S64x64 .f32} {x7 x8 : FVec Ideal S64 .f32}
  {x9 : FVec Ideal S256x64 .f32} {x10 x11 : FVec Ideal S64 .f32} {x12 : FVec Ideal S64x64 .f32} {x13 x14 : FVec Ideal S64 .f32}
  {x15 : FVec Ideal S256x64 .f32} {x16 x17 : FVec Ideal S64 .f32} {x18 : FVec Ideal S64x256 .f32} {x19 x20 : FVec Ideal S256 .f32}
  (H : Holds A x0 x1 x3 x4 x5 x6 x7 x8 x9 x10 x11 x12 x13 x14 x15 x16 x17 x18 x19 x20)

include H

/-- The reference's queries. -/
theorem q_at (b : Fin 4) (t : Fin 64) (i : Fin 4096) :
    val_main_v101 (F := Ideal) x0 x3 x4 x5 x6 x7 x8 (ix4 b t (row i) (col i)) = ((A.q b t i : ℝ) : EReal) := by
  have e1 : val_main_v80 (F := Ideal) x0 x3 x4 x5 = norm64 (convWide x3 x0) x4 x5 := rfl
  have e2 : val_main_v101 (F := Ideal) x0 x3 x4 x5 x6 x7 x8 = norm64 (convMid x6 (val_main_v80 (F := Ideal) x0 x3 x4 x5)) x7 x8 := rfl
  rw [e2, e1]
  exact norm64_at (convMid_at H.wq2 (norm64_at (convWide_at H.wq1 H.x) H.gq1 H.bq1)) H.gq2 H.bq2 b t i

/-- The reference's keys. -/
theorem k_at (b : Fin 4) (t : Fin 64) (i : Fin 4096) :
    val_main_v143 (F := Ideal) x0 x1 x9 x10 x11 x12 x13 x14 (ix4 b t (row i) (col i)) = ((A.k b t i : ℝ) : EReal) := by
  have e1 : val_main_v122 (F := Ideal) x0 x1 x9 x10 x11 = norm64 (convWide x9 (val_main_v59 (F := Ideal) x0 x1)) x10 x11 := rfl
  have e2 : val_main_v143 (F := Ideal) x0 x1 x9 x10 x11 x12 x13 x14
    = norm64 (convMid x12 (val_main_v122 (F := Ideal) x0 x1 x9 x10 x11)) x13 x14 := rfl
  rw [e2, e1]
  exact norm64_at (convMid_at H.wk2 (norm64_at (convWide_at H.wk1 (gathered_at H.x H.l)) H.gk1 H.bk1)) H.gk2 H.bk2 b t i

/-- The reference's values. -/
theorem v_at (b : Fin 4) (t : Fin 64) (i : Fin 4096) :
    val_main_v164 (F := Ideal) x0 x1 x15 x16 x17 (ix4 b t (row i) (col i)) = ((A.v b t i : ℝ) : EReal) := by
  have e : val_main_v164 (F := Ideal) x0 x1 x15 x16 x17 = norm64 (convWide x15 (val_main_v59 (F := Ideal) x0 x1)) x16 x17 := rfl
  rw [e]
  exact norm64_at (convWide_at H.wv (gathered_at H.x H.l)) H.gv H.bv b t i

/-- The reference's result. -/
theorem result_at : val_main_v207 (F := Ideal) x0 x1 x3 x4 x5 x6 x7 x8 x9 x10 x11 x12 x13 x14 x15 x16 x17 x18 x19 x20
    = fun j : S4x256x64x64.Idx => ((A.out (j 0) (j 1) (pixel (j 2) (j 3)) : ℝ) : EReal) := by
  have e1 : val_main_v186 (F := Ideal) x0 x1 x3 x4 x5 x6 x7 x8 x9 x10 x11 x12 x13 x14 x15 x16 x17
    = attend (val_main_v101 (F := Ideal) x0 x3 x4 x5 x6 x7 x8) (val_main_v143 (F := Ideal) x0 x1 x9 x10 x11 x12 x13 x14)
      (val_main_v164 (F := Ideal) x0 x1 x15 x16 x17) := rfl
  have e2 : val_main_v207 (F := Ideal) x0 x1 x3 x4 x5 x6 x7 x8 x9 x10 x11 x12 x13 x14 x15 x16 x17 x18 x19 x20
    = norm256 (convOut x18 (val_main_v186 (F := Ideal) x0 x1 x3 x4 x5 x6 x7 x8 x9 x10 x11 x12 x13 x14 x15 x16 x17)) x19 x20 := rfl
  funext j
  rw [e2, e1]
  have h := norm256_at (convOut_at H.wo (attend_at (q_at H) (k_at H) (v_at H))) H.go H.bo (j 0) (j 1) (pixel (j 2) (j 3))
  refine Eq.trans (congrArg _ (funext fun a => ?_)) h
  match a with
  | ⟨0, _⟩ => rfl
  | ⟨1, _⟩ => rfl
  | ⟨2, _⟩ => exact (row_pixel (j 2) (j 3)).symm
  | ⟨3, _⟩ => exact (col_pixel (j 2) (j 3)).symm

end Cert.ReferenceValue

end
-- ==== Proof.Precond.lean ====
/- The precondition: every entry of every argument is a real number. -/
module

public import proofs.«01_k».proof.Proof.Args
public import proofs.«01_k».proof.Proof.Reals
public import proofs.«01_k».proof.Proof.Gen.Pre_finite
public import Idealize.ShloMosaic.Lib.Affine
public import Idealize.ShloMosaic.Lib.ReduceAll

@[expose] public section

noncomputable section

namespace Cert.Precondition

open Idealize.ShloMosaic Cert.Pre_finite Cert.Pre_finite.Facts Cert.Model

variable [Cert.Pre_finite.Facts]

/-- The bit that an array's entries all pass the comparison with infinity. -/
def passes {s : Shape} {axes : List (Fin s.rank)} (x : FVec Ideal s .f32) (hb : S_.BroadcastsInDim s (![] : Fin 0 → Fin
    s.rank))
    (h : s.ReducesTo axes S_) : IVec S_ 1 :=
  Host.reduce IntOp.andi (cmpf .olt (Host.absf x) (broadcastInDim s ![] hb (constant S_ .f32 0x7F800000#32))) (constantI
      S_ 1 1#1) h h_S_

theorem real_of_passes {s : Shape} {axes : List (Fin s.rank)} {x : FVec Ideal s .f32}
    {hb : S_.BroadcastsInDim s (![] : Fin 0 → Fin s.rank)} {h : s.ReducesTo axes S_} (e : passes x hb h ix0 = 1#1) (i :
        s.Idx) :
    x i = (((x i).toReal : ℝ) : EReal) := by
  have : Subsingleton S_.Idx := ⟨fun _ _ => funext fun a => a.elim0⟩
  have hi := Host.reduce_andi_all _ _ _ _ ix0 e i
  have hi' : BitVec.ofBool (decide (max (x i) (-(x i)) < Ideal.ofBits .f32 0x7F800000#32)) = 1#1 := hi
  rw [bits_top] at hi'
  have hlt : max (x i) (-(x i)) < ⊤ := by
    by_contra hn
    rw [decide_eq_false hn] at hi'
    exact absurd hi' (by decide)
  have h1 : x i ≠ ⊤ := fun h => by simp [h] at hlt
  have h2 : x i ≠ ⊥ := fun h => by simp [h] at hlt
  exact (EReal.coe_toReal h1 h2).symm

/-- Arguments that meet the precondition hold real numbers. -/
theorem exists_holds (x0 : FVec Ideal S4x256x64x64 .f32) (x1 : FVec Ideal S4x150x64x64 .f32) (x2 : FVec Ideal
    S4x256x64x64 .f32) (x3 : FVec Ideal S256x64 .f32) (x4 : FVec Ideal S64 .f32) (x5 : FVec Ideal S64 .f32) (x6 : FVec
    Ideal S64x64 .f32) (x7 : FVec Ideal S64 .f32) (x8 : FVec Ideal S64 .f32) (x9 : FVec Ideal S256x64 .f32) (x10 : FVec
    Ideal S64 .f32) (x11 : FVec Ideal S64 .f32) (x12 : FVec Ideal S64x64 .f32) (x13 : FVec Ideal S64 .f32) (x14 : FVec
    Ideal S64 .f32) (x15 : FVec Ideal S256x64 .f32) (x16 : FVec Ideal S64 .f32) (x17 : FVec Ideal S64 .f32) (x18 : FVec
    Ideal S64x256 .f32) (x19 : FVec Ideal S256 .f32) (x20 : FVec Ideal S256 .f32)
    (h : fn (F := Ideal) x0 x1 x2 x3 x4 x5 x6 x7 x8 x9 x10 x11 x12 x13 x14 x15 x16 x17 x18 x19 x20 = fun _ => 1#1) :
    ∃ A : Args, Holds A x0 x1 x3 x4 x5 x6 x7 x8 x9 x10 x11 x12 x13 x14 x15 x16 x17 x18 x19 x20 := by
  have e : (andi (andi (andi (andi (andi (andi (andi (andi (andi (andi (andi (andi (andi (andi (andi (andi (andi (andi
      (andi (passes x0 bcast_S_S4x256x64x64 reducesTo_S4x256x64x64_S_d0_1_2_3) (passes x1 bcast_S_S4x150x64x64
      reducesTo_S4x150x64x64_S_d0_1_2_3)) (passes x3 bcast_S_S256x64 reducesTo_S256x64_S_d0_1)) (passes x4 bcast_S_S64
      reducesTo_S64_S_d0)) (passes x5 bcast_S_S64 reducesTo_S64_S_d0)) (passes x6 bcast_S_S64x64
      reducesTo_S64x64_S_d0_1)) (passes x7 bcast_S_S64 reducesTo_S64_S_d0)) (passes x8 bcast_S_S64 reducesTo_S64_S_d0))
      (passes x9 bcast_S_S256x64 reducesTo_S256x64_S_d0_1)) (passes x10 bcast_S_S64 reducesTo_S64_S_d0)) (passes x11
      bcast_S_S64 reducesTo_S64_S_d0)) (passes x12 bcast_S_S64x64 reducesTo_S64x64_S_d0_1)) (passes x13 bcast_S_S64
      reducesTo_S64_S_d0)) (passes x14 bcast_S_S64 reducesTo_S64_S_d0)) (passes x15 bcast_S_S256x64
      reducesTo_S256x64_S_d0_1)) (passes x16 bcast_S_S64 reducesTo_S64_S_d0)) (passes x17 bcast_S_S64
      reducesTo_S64_S_d0)) (passes x18 bcast_S_S64x256 reducesTo_S64x256_S_d0_1)) (passes x19 bcast_S_S256
      reducesTo_S256_S_d0)) (passes x20 bcast_S_S256 reducesTo_S256_S_d0) : IVec S_ 1) ix0 = 1#1 := congrFun h ix0
  simp only [andi_apply, IntOp.andi_eq_one] at e
  obtain ⟨⟨⟨⟨⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩, h16⟩, h17⟩,
      h18⟩, h19⟩, h20⟩ := e
  exact ⟨{ X := fun b c i => (x0 (ix4 b c (row i) (col i))).toReal, L := fun b c i => (x1 (ix4 b c (row i) (col
      i))).toReal, wq1 := fun c o => (x3 (ix2 c o)).toReal, gq1 := fun o => (x4 (ix1 o)).toReal, bq1 := fun o => (x5
      (ix1 o)).toReal, wq2 := fun c o => (x6 (ix2 c o)).toReal, gq2 := fun o => (x7 (ix1 o)).toReal, bq2 := fun o => (x8
      (ix1 o)).toReal, wk1 := fun c o => (x9 (ix2 c o)).toReal, gk1 := fun o => (x10 (ix1 o)).toReal, bk1 := fun o =>
      (x11 (ix1 o)).toReal, wk2 := fun c o => (x12 (ix2 c o)).toReal, gk2 := fun o => (x13 (ix1 o)).toReal, bk2 := fun o
      => (x14 (ix1 o)).toReal, wv := fun c o => (x15 (ix2 c o)).toReal, gv := fun o => (x16 (ix1 o)).toReal, bv := fun o
      => (x17 (ix1 o)).toReal, wo := fun c o => (x18 (ix2 c o)).toReal, go := fun o => (x19 (ix1 o)).toReal, bo := fun o
      => (x20 (ix1 o)).toReal }, fun _ _ _ => real_of_passes h0 _, fun _ _ _ => real_of_passes h1 _, fun _ _ =>
      real_of_passes h3 _, fun _ => real_of_passes h4 _, fun _ => real_of_passes h5 _, fun _ _ => real_of_passes h6 _,
      fun _ => real_of_passes h7 _, fun _ => real_of_passes h8 _, fun _ _ => real_of_passes h9 _, fun _ =>
      real_of_passes h10 _, fun _ => real_of_passes h11 _, fun _ _ => real_of_passes h12 _, fun _ => real_of_passes h13
      _, fun _ => real_of_passes h14 _, fun _ _ => real_of_passes h15 _, fun _ => real_of_passes h16 _, fun _ =>
      real_of_passes h17 _, fun _ _ => real_of_passes h18 _, fun _ => real_of_passes h19 _, fun _ => real_of_passes h20
      _⟩

end Cert.Precondition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.KernelRun
public import proofs.«01_k».proof.Proof.RefValue
public import proofs.«01_k».proof.Proof.Precond
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs to its end from every memory and changes no argument. -/
theorem kernel_frame : quiescent_Kernel (hKernel := Cert.Kernel.Gen.facts) :=
  fun m ρ _ => Cert.Kernel.Gen.frame m ρ

/-- So does the kernel read over the extended reals. -/
theorem kernelIdeal_frame : quiescent_KernelIdeal (hKernelIdeal := Cert.KernelIdeal.Gen.facts) :=
  fun m ρ _ => Cert.KernelIdeal.Gen.frame m ρ

/-- So does the reference read over the extended reals. -/
theorem referenceIdeal_frame : quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So does the reference at finite arguments. -/
theorem referenceIdeal_frame_finite : quiescent_ReferenceIdeal_pre_finite (hReferenceIdeal := Cert.ReferenceIdeal.Gen.facts)
    (hPre_finite := Cert.Pre_finite.Gen.facts) :=
  fun m ρ _ => referenceIdeal_frame m ρ trivial

/-- The literal written for the mask may be read as `-∞`. -/
theorem mask_named : preserves_Kernel_KernelIdeal :=
  IdealRules.named_const.statement Cert.KernelIdeal.κ "mask" .f32 0xF149F2CA#32 ⊥ rfl

/-- At finite arguments the kernel and the reference, read over the extended reals, end with the same result. -/
theorem kernel_eq_reference : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Gen.W8 m ρ c (Proc.devRef .tc Cert.KernelIdeal.main_v18),
    (θ_run Cert.KernelIdeal.defs _ _).mono (fun _ h => h.1) (Cert.KernelIdeal.Gen.kernel_run m ρ),
    (θ_run Cert.ReferenceIdeal.defs _ _).mono (fun _ h c => ⟨(h c).1.trans ?_, (h c).2⟩)
      (Cert.ReferenceIdeal.Value.run (F := Ideal) m' ρ')⟩
  refine (Cert.ReferenceIdeal.Read.val_main_v207_eq (StableHlo.launchContents m' c)).trans ?_
  obtain ⟨a0, a1, _, a3, a4, a5, a6, a7, a8, a9, a10, a11, a12, a13, a14, a15, a16, a17, a18, a19, a20⟩ := hagree c
  letI := Cert.Pre_finite.Gen.facts
  obtain ⟨A, H⟩ := Precondition.exists_holds _ _ _ _ _ _ _ _ _ _ _ _ _ _ _ _ _ _ _ _ _ (hpre c)
  have H' := H
  rw [← a0, ← a1, ← a3, ← a4, ← a5, ← a6, ← a7, ← a8, ← a9, ← a10, ← a11,
    ← a12, ← a13, ← a14, ← a15, ← a16, ← a17, ← a18, ← a19, ← a20] at H'
  exact (Cert.ReferenceValue.result_at H').trans (Cert.KernelValue.result_read m ρ c H).symm

/-- All of it. -/
theorem claim : Cert.Claim := ⟨Cert.Kernel.Gen.facts, Cert.KernelIdeal.Gen.facts, Cert.ReferenceIdeal.Gen.facts,
  Cert.Pre_finite.Gen.facts, kernel_frame, kernelIdeal_frame,
  fun m ρ _ => Cert.KernelIdeal.Gen.frame m ρ, referenceIdeal_frame, referenceIdeal_frame_finite,
  mask_named, kernel_eq_reference⟩

end Cert.Proof

end
